-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_std" .f32 0x3F7FFFAC#32 (((Real.sqrt (2097173 / 2097152))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x28x28 : Shape := ⟨3, ![1024, 28, 28]⟩
abbrev S_ : Shape := ⟨0, ![]⟩
abbrev S784x32 : Shape := ⟨2, ![784, 32]⟩
abbrev S32 : Shape := ⟨1, ![32]⟩
abbrev S16x16 : Shape := ⟨2, ![16, 16]⟩
abbrev S16 : Shape := ⟨1, ![16]⟩
abbrev S8x10 : Shape := ⟨2, ![8, 10]⟩
abbrev S10 : Shape := ⟨1, ![10]⟩

class Facts : Prop where
  bcast_S_S1024x28x28 : S_.BroadcastsInDim S1024x28x28 (![] : Fin 0 → Fin S1024x28x28.rank)
  reducesTo_S1024x28x28_S_d0_1_2 : S1024x28x28.ReducesTo [0, 1, 2] S_
  h_S_ : 0 < S_.numel
  bcast_S_S784x32 : S_.BroadcastsInDim S784x32 (![] : Fin 0 → Fin S784x32.rank)
  reducesTo_S784x32_S_d0_1 : S784x32.ReducesTo [0, 1] S_
  bcast_S_S32 : S_.BroadcastsInDim S32 (![] : Fin 0 → Fin S32.rank)
  reducesTo_S32_S_d0 : S32.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg9 : FVec F S16 .f32) (main_arg10 : FVec F S16x16 .f32) (main_arg12 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg9
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg10
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg12
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S1024x28x28 .f32) (main_arg1 : IVec S_ 32) (main_arg2 : FVec F S784x32 .f32) (main_arg3 : FVec F S32 .f32) (main_arg4 : FVec F S16x16 .f32) (main_arg5 : FVec F S16 .f32) (main_arg6 : FVec F S16x16 .f32) (main_arg7 : FVec F S16 .f32) (main_arg8 : FVec F S16x16 .f32) (main_arg9 : FVec F S16 .f32) (main_arg10 : FVec F S16x16 .f32) (main_arg11 : FVec F S16 .f32) (main_arg12 : FVec F S16 .f32) (main_arg13 : FVec F S16 .f32) (main_arg14 : FVec F S8x10 .f32) (main_arg15 : FVec F S10 .f32) : IVec S_ 1 :=
  let main_v0 : FVec F S1024x28x28 .f32 := Host.absf main_arg0
  let main_cst : FVec F S_ .f32 := constant S_ .f32 0x7F800000#32
  let main_v1 : FVec F S1024x28x28 .f32 := broadcastInDim S1024x28x28 ![] bcast_S_S1024x28x28 main_cst
  let main_v2 : IVec S1024x28x28 1 := cmpf .olt main_v0 main_v1
  let main_c : IVec S_ 1 := constantI S_ 1 1#1
  let main_v3 : IVec S_ 1 := (fun x v => Host.reduce IntOp.andi x v reducesTo_S1024x28x28_S_d0_1_2 h_S_) main_v2 main_c
  let main_v4 : FVec F S784x32 .f32 := Host.absf main_arg2
  let main_cst_0 : FVec F S_ .f32 := constant S_ .f32 0x7F800000#32
  let main_v5 : FVec F S784x32 .f32 := broadcastInDim S784x32 ![] bcast_S_S784x32 main_cst_0
  let main_v6 : IVec S784x32 1 := cmpf .olt main_v4 main_v5
  let main_c_1 : IVec S_ 1 := constantI S_ 1 1#1
  let main_v7 : IVec S_ 1 := (fun x v => Host.reduce IntOp.andi x v reducesTo_S784x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S16x16 .f32 := Host.absf main_arg8
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg9 main_arg10 main_arg12 main_v13 main_v16
-- ==== Kernel.lean ====
abbrev S1024x28x28 : Shape := ⟨3, ![1024, 28, 28]⟩
abbrev S_ : Shape := ⟨0, ![]⟩
abbrev S784x32 : Shape := ⟨2, ![784, 32]⟩
abbrev S32 : Shape := ⟨1, ![32]⟩
abbrev S16x16 : Shape := ⟨2, ![16, 16]⟩
abbrev S16 : Shape := ⟨1, ![16]⟩
abbrev S8x10 : Shape := ⟨2, ![8, 10]⟩
abbrev S10 : Shape := ⟨1, ![10]⟩
abbrev S1024x784 : Shape := ⟨2, ![1024, 784]⟩
abbrev S1x32 : Shape := ⟨2, ![1, 32]⟩
abbrev S1x16 : Shape := ⟨2, ![1, 16]⟩
abbrev S1x10 : Shape := ⟨2, ![1, 10]⟩
abbrev S1024x10 : Shape := ⟨2, ![1024, 10]⟩
abbrev S32x16 : Shape := ⟨2, ![32, 16]⟩
abbrev S16x8 : Shape := ⟨2, ![16, 8]⟩
abbrev S1024x32 : Shape := ⟨2, ![1024, 32]⟩
abbrev S1024x16 : Shape := ⟨2, ![1024, 16]⟩
abbrev S1024x8 : Shape := ⟨2, ![1024, 8]⟩
abbrev S1024x1 : Shape := ⟨2, ![1024, 1]⟩
abbrev S1024x9 : Shape := ⟨2, ![1024, 9]⟩
abbrev S1024x1024 : Shape := ⟨2, ![1024, 1024]⟩
abbrev S9 : Shape := ⟨1, ![9]⟩
abbrev S1x9 : Shape := ⟨2, ![1, 9]⟩

abbrev nBuf : Space → Nat
  | .hbm => 27
  | .vmem => 16
  | .smem => 0
  | _ => 0

abbrev bufTy : (tb : Table) → Fin (tcTables nBuf tb) → BufTy
  | .hbm, ⟨0, _⟩ => ⟨S1024x28x28, .f32⟩
  | .hbm, ⟨1, _⟩ => ⟨S_, .i32⟩
  | .hbm, ⟨2, _⟩ => ⟨S784x32, .f32⟩
  | .hbm, ⟨3, _⟩ => ⟨S32, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S8x10, .f32⟩
  | .hbm, ⟨15, _⟩ => ⟨S10, .f32⟩
  | .hbm, ⟨16, _⟩ => ⟨S1024x784, .f32⟩
  | .hbm, ⟨17, _⟩ => ⟨S1024x784, .bf16⟩
  | .hbm, ⟨18, _⟩ => ⟨S1x32, .f32⟩
  | .hbm, ⟨19, _⟩ => ⟨S1x16, .f32⟩
  | .hbm, ⟨20, _⟩ => ⟨S1x16, .f32⟩
  | .hbm, ⟨21, _⟩ => ⟨S1x16, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x10, .f32⟩
  | .hbm, ⟨26, _⟩ => ⟨S1024x10, .f32⟩
  | .local _ .vmem, ⟨0, _⟩ => ⟨S1024x784, .bf16⟩
  | .local _ .vmem, ⟨1, _⟩ => ⟨S784x32, .f32⟩
  | .local _ .vmem, ⟨2, _⟩ => ⟨S1x32, .f32⟩
  | .local _ .vmem, ⟨3, _⟩ => ⟨S16x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S16x16, .f32⟩
  | .local _ .vmem, ⟨8, _⟩ => ⟨S1x16, .f32⟩
  | .local _ .vmem, ⟨9, _⟩ => ⟨S16x16, .f32⟩
  | .local _ .vmem, ⟨10, _⟩ => ⟨S1x16, .f32⟩
  | .local _ .vmem, ⟨11, _⟩ => ⟨S1x16, .f32⟩
  | .local _ .vmem, ⟨12, _⟩ => ⟨S1x16, .f32⟩
  | .local _ .vmem, ⟨13, _⟩ => ⟨S8x10, .f32⟩
  | .local _ .vmem, ⟨14, _⟩ => ⟨S1x10, .f32⟩
  | .local _ .vmem, ⟨15, _⟩ => ⟨S1024x10, .f32⟩
  | _, _ => ⟨S1024x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1024x784 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S784x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== KernelIdeal.lean ====
variable {F : FTy → Type} [FloatOps F] [Named F]
def κ : String → Option EReal := fun
  | "inv_std" => some (((Real.sqrt (2097173 / 2097152))⁻¹ : ℝ) : EReal)
  | _ => none
-- ==== ReferenceIdeal.lean ====
abbrev S1024x28x28 : Shape := ⟨3, ![1024, 28, 28]⟩
abbrev S_ : Shape := ⟨0, ![]⟩
abbrev S784x32 : Shape := ⟨2, ![784, 32]⟩
abbrev S32 : Shape := ⟨1, ![32]⟩
abbrev S16x16 : Shape := ⟨2, ![16, 16]⟩
abbrev S16 : Shape := ⟨1, ![16]⟩
abbrev S8x10 : Shape := ⟨2, ![8, 10]⟩
abbrev S10 : Shape := ⟨1, ![10]⟩
abbrev S1024 : Shape := ⟨1, ![1024]⟩
abbrev S1x1024 : Shape := ⟨2, ![1, 1024]⟩
abbrev S1024x1024 : Shape := ⟨2, ![1024, 1024]⟩
abbrev S1048576 : Shape := ⟨1, ![1048576]⟩
abbrev S1024x784 : Shape := ⟨2, ![1024, 784]⟩
abbrev S1024x32 : Shape := ⟨2, ![1024, 32]⟩
abbrev S1x32 : Shape := ⟨2, ![1, 32]⟩
abbrev S1024x16x2 : Shape := ⟨3, ![1024, 16, 2]⟩
abbrev S1024x16 : Shape := ⟨2, ![1024, 16]⟩
abbrev S1x16 : Shape := ⟨2, ![1, 16]⟩
abbrev S1048576x1 : Shape := ⟨2, ![1048576, 1]⟩
abbrev S1048576x16 : Shape := ⟨2, ![1048576, 16]⟩
abbrev S1024x8x2 : Shape := ⟨3, ![1024, 8, 2]⟩
abbrev S1024x8 : Shape := ⟨2, ![1024, 8]⟩
abbrev S8x1024 : Shape := ⟨2, ![8, 1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 124
  | .vmem => 0
  | .smem => 0
  | _ => 0

abbrev bufTy : (tb : Table) → Fin (tcTables nBuf tb) → BufTy
  | .hbm, ⟨0, _⟩ => ⟨S1024x28x28, .f32⟩
  | .hbm, ⟨1, _⟩ => ⟨S_, .i32⟩
  | .hbm, ⟨2, _⟩ => ⟨S784x32, .f32⟩
  | .hbm, ⟨3, _⟩ => ⟨S32, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S8x10, .f32⟩
  | .hbm, ⟨15, _⟩ => ⟨S10, .f32⟩
  | .hbm, ⟨16, _⟩ => ⟨S1024, .i32⟩
  | .hbm, ⟨17, _⟩ => ⟨S1x1024, .i32⟩
  | .hbm, ⟨18, _⟩ => ⟨S1024x1024, .i32⟩
  | .hbm, ⟨19, _⟩ => ⟨S1048576, .i32⟩
  | .hbm, ⟨20, _⟩ => ⟨S1024x784, .f32⟩
  | .hbm, ⟨21, _⟩ => ⟨S1024x32, .f32⟩
  | .hbm, ⟨22, _⟩ => ⟨S1x32, .f32⟩
  | .hbm, ⟨23, _⟩ => ⟨S1024x32, .f32⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | .hbm, ⟨28, _⟩ => ⟨S1024x16x2, .f32⟩
  | .hbm, ⟨29, _⟩ => ⟨S_, .f32⟩
  | .hbm, ⟨30, _⟩ => ⟨S1024x16, .f32⟩
  | .hbm, ⟨31, _⟩ => ⟨S1024x16, .f32⟩
  | .hbm, ⟨32, _⟩ => ⟨S1x16, .f32⟩
  | .hbm, ⟨33, _⟩ => ⟨S1024x16, .f32⟩
  | .hbm, ⟨34, _⟩ => ⟨S1024x16, .f32⟩
  | .hbm, ⟨35, _⟩ => ⟨S1024x16, .f32⟩
  | .hbm, ⟨36, _⟩ => ⟨S1x16, .f32⟩
  | .hbm, ⟨37, _⟩ => ⟨S1024x16, .f32⟩
  | .hbm, ⟨38, _⟩ => ⟨S1024x16, .f32⟩
  | .hbm, ⟨39, _⟩ => ⟨S1024x16, .f32⟩
  | .hbm, ⟨40, _⟩ => ⟨S1x16, .f32⟩
  | .hbm, ⟨41, _⟩ => ⟨S1024x16, .f32⟩
  | .hbm, ⟨42, _⟩ => ⟨S1024x16, .f32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576x16, .f32⟩
  | .hbm, ⟨52, _⟩ => ⟨S_, .i32⟩
  | .hbm, ⟨53, _⟩ => ⟨S1048576, .i32⟩
  | .hbm, ⟨54, _⟩ => ⟨S1048576, .i1⟩
  | .hbm, ⟨55, _⟩ => ⟨S_, .i32⟩
  | .hbm, ⟨56, _⟩ => ⟨S1048576, .i32⟩
  | .hbm, ⟨57, _⟩ => ⟨S1048576, .i32⟩
  | .hbm, ⟨58, _⟩ => ⟨S1048576, .i32⟩
  | .hbm, ⟨59, _⟩ => ⟨S1048576x1, .i32⟩
  | .hbm, ⟨60, _⟩ => ⟨S1048576x16, .f32⟩
  | .hbm, ⟨61, _⟩ => ⟨S1048576x16, .f32⟩
  | .hbm, ⟨62, _⟩ => ⟨S1048576x16, .f32⟩
  | .hbm, ⟨63, _⟩ => ⟨S1048576x16, .f32⟩
  | .hbm, ⟨64, _⟩ => ⟨S_, .f32⟩
  | .hbm, ⟨65, _⟩ => ⟨S1048576x16, .f32⟩
  | .hbm, ⟨66, _⟩ => ⟨S1048576x16, .f32⟩
  | .hbm, ⟨67, _⟩ => ⟨S_, .f32⟩
  | .hbm, ⟨68, _⟩ => ⟨S1048576x16, .f32⟩
  | .hbm, ⟨69, _⟩ => ⟨S1048576x16, .f32⟩
  | .hbm, ⟨70, _⟩ => ⟨S_, .i32⟩
  | .hbm, ⟨71, _⟩ => ⟨S1048576, .i32⟩
  | .hbm, ⟨72, _⟩ => ⟨S1048576, .i1⟩
  | .hbm, ⟨73, _⟩ => ⟨S_, .i32⟩
  | .hbm, ⟨74, _⟩ => ⟨S1048576, .i32⟩
  | .hbm, ⟨75, _⟩ => ⟨S1048576, .i32⟩
  | .hbm, ⟨76, _⟩ => ⟨S1048576, .i32⟩
  | .hbm, ⟨77, _⟩ => ⟨S1048576x1, .i32⟩
  | .hbm, ⟨78, _⟩ => ⟨S1048576x16, .f32⟩
  | .hbm, ⟨79, _⟩ => ⟨S1048576x16, .f32⟩
  | .hbm, ⟨80, _⟩ => ⟨S_, .f32⟩
  | .hbm, ⟨81, _⟩ => ⟨S1024x16, .f32⟩
  | .hbm, ⟨82, _⟩ => ⟨S1048576x1, .i32⟩
  | .hbm, ⟨83, _⟩ => ⟨S1024x16, .f32⟩
  | .hbm, ⟨84, _⟩ => ⟨S1024x16, .f32⟩
  | .hbm, ⟨85, _⟩ => ⟨S1024x16, .f32⟩
  | .hbm, ⟨86, _⟩ => ⟨S1x16, .f32⟩
  | .hbm, ⟨87, _⟩ => ⟨S1024x16, .f32⟩
  | .hbm, ⟨88, _⟩ => ⟨S1024x16, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1024x16, .f32⟩
  | .hbm, ⟨93, _⟩ => ⟨S1024x16, .f32⟩
  | .hbm, ⟨94, _⟩ => ⟨S1x16, .f32⟩
  | .hbm, ⟨95, _⟩ => ⟨S1024x16, .f32⟩
  | .hbm, ⟨96, _⟩ => ⟨S1024x16, .f32⟩
  | .hbm, ⟨97, _⟩ => ⟨S1x16, .f32⟩
  | .hbm, ⟨98, _⟩ => ⟨S1024x16, .f32⟩
  | .hbm, ⟨99, _⟩ => ⟨S1024x16, .f32⟩
  | .hbm, ⟨100, _⟩ => ⟨S1024x8x2, .f32⟩
  | .hbm, ⟨101, _⟩ => ⟨S_, .f32⟩
  | .hbm, ⟨102, _⟩ => ⟨S1024x8, .f32⟩
  | .hbm, ⟨103, _⟩ => ⟨S8x1024, .f32⟩
  | .hbm, ⟨104, _⟩ => ⟨S1024x1024, .f32⟩
  | .hbm, ⟨105, _⟩ => ⟨S1024x1024, .f32⟩
  | .hbm, ⟨106, _⟩ => ⟨S1024x1024, .f32⟩
  | .hbm, ⟨107, _⟩ => ⟨S_, .f32⟩
  | .hbm, ⟨108, _⟩ => ⟨S1024x1024, .f32⟩
  | .hbm, ⟨109, _⟩ => ⟨S1024x1024, .f32⟩
  | .hbm, ⟨110, _⟩ => ⟨S_, .f32⟩
  | .hbm, ⟨111, _⟩ => ⟨S1024x1024, .f32⟩
  | .hbm, ⟨112, _⟩ => ⟨S1024x1024, .f32⟩
  | .hbm, ⟨113, _⟩ => ⟨S_, .f32⟩
  | .hbm, ⟨114, _⟩ => ⟨S1024, .f32⟩
  | .hbm, ⟨115, _⟩ => ⟨S1024x1, .f32⟩
  | .hbm, ⟨116, _⟩ => ⟨S1024x1024, .f32⟩
  | .hbm, ⟨117, _⟩ => ⟨S1024x1024, .f32⟩
  | .hbm, ⟨118, _⟩ => ⟨S1024x8, .f32⟩
  | .hbm, ⟨119, _⟩ => ⟨S1024x8, .f32⟩
  | .hbm, ⟨120, _⟩ => ⟨S1024x10, .f32⟩
  | .hbm, ⟨121, _⟩ => ⟨S1x10, .f32⟩
  | .hbm, ⟨122, _⟩ => ⟨S1024x10, .f32⟩
  | .hbm, ⟨123, _⟩ => ⟨S1024x10, .f32⟩
  | _, _ => ⟨S1024x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_cst : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_1 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_9 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_cst_12 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== Proof.KernelArray.lean ====
/- What the kernel's result array holds after the run: the body's payload over the argument arrays. The grid has
   one point and every block is its whole array, so the array is what that one point stores. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen

/-- The body's result as one function of the fifteen blocks it loads, in the order of the kernel's operands:
    the image rows, `W1`, `b1`, `Wk`, `bk`, `Wq`, `bq`, `Wv`, `bv`, `Wskip`, `conv_bias`, `bn_gamma`, `bn_beta`,
    `fc_W`, `fc_b`. -/
def body (x : FVec Ideal S1024x784 .bf16) (W1 : FVec Ideal S784x32 .f32) (b1 : FVec Ideal S1x32 .f32)
    (Wk : FVec Ideal S16x16 .f32) (bk : FVec Ideal S1x16 .f32) (Wq : FVec Ideal S16x16 .f32) (bq : FVec Ideal S1x16 .f32)
    (Wv : FVec Ideal S16x16 .f32) (bv : FVec Ideal S1x16 .f32) (Ws : FVec Ideal S16x16 .f32) (cb : FVec Ideal S1x16 .f32)
    (ga : FVec Ideal S1x16 .f32) (be : FVec Ideal S1x16 .f32) (fW : FVec Ideal S8x10 .f32) (fb : FVec Ideal S1x10 .f32) :
    FVec Ideal S1024x10 .f32 :=
  k0_pay1 (k0_pay9 (k0_pay2 (F := Ideal)) (k0_pay3 (F := Ideal)) (k0_pay4 x W1 b1) (k0_pay5 ga)
    (k0_pay6 (k0_pay4 x W1 b1) Wk Wq bk bq) (k0_pay7 (k0_pay4 x W1 b1) ga Wv bv) (k0_pay8 ga Ws) cb be fW) (k0_pay10 fb)

variable (m : (ℓ : Loc nD τ sig) → Buf (Elt Ideal) ℓ)

/-- The image rows as the region finds them: the argument `x` flattened to 784 numbers a row. -/
abbrev rows (c : Dev nD) : FVec Ideal S1024x784 .bf16 :=
  truncf .bf16 (shapeCast S1024x784 (show FVec Ideal S1024x28x28 .f32 from m ((c : Thread nD τ).loc main_arg0)) shapeCasts_S1024x28x28_S1024x784) bitsLt_bf16_f32

/-- A length-16 argument as one row. -/
abbrev row16 (v : FVec Ideal S16 .f32) : FVec Ideal S1x16 .f32 := shapeCast S1x16 v shapeCasts_S16_S1x16

/-- A length-32 argument as one row. -/
abbrev row32 (v : FVec Ideal S32 .f32) : FVec Ideal S1x32 .f32 := shapeCast S1x32 v shapeCasts_S32_S1x32

/-- A length-10 argument as one row. -/
abbrev row10 (v : FVec Ideal S10 .f32) : FVec Ideal S1x10 .f32 := shapeCast S1x10 v shapeCasts_S10_S1x10

/-- Every window's block index is zero on both axes: each block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

/-- What the region finds in the operand holding the image rows. -/
theorem V_main_v1 (c : Dev nD) : V m c main_v1 = rows m c := by
  entry_read
  rfl

/-- Block 0 is its whole array: the image rows. -/
theorem blk0 (c : Dev nD) : iblk m c 0 t0_0 = rows m c := by
  funext j
  rw [← V_main_v1]
  blk_ext [iblk, idx t0_0]

/-- Block 1 is its whole array: the first weight matrix. -/
theorem blk1 (c : Dev nD) : iblk m c 1 t0_0 = m ((c : Thread nD τ).loc main_arg2) := by
  funext j
  blk_point [iblk, V, idx t0_0]

/-- What the region finds in the operand holding the first bias. -/
theorem V_main_v2 (c : Dev nD) : V m c main_v2 = row32 (m ((c : Thread nD τ).loc main_arg3)) := by
  entry_read
  rfl

/-- Block 2 is its whole array: the first bias. -/
theorem blk2 (c : Dev nD) : iblk m c 2 t0_0 = row32 (m ((c : Thread nD τ).loc main_arg3)) := by
  funext j
  rw [← V_main_v2]
  blk_ext [iblk, idx t0_0]

/-- Block 3 is its whole array: the key matrix. -/
theorem blk3 (c : Dev nD) : iblk m c 3 t0_0 = m ((c : Thread nD τ).loc main_arg4) := by
  funext j
  blk_point [iblk, V, idx t0_0]

/-- What the region finds in the operand holding the key bias. -/
theorem V_main_v3 (c : Dev nD) : V m c main_v3 = row16 (m ((c : Thread nD τ).loc main_arg5)) := by
  entry_read
  rfl

/-- Block 4 is its whole array: the key bias. -/
theorem blk4 (c : Dev nD) : iblk m c 4 t0_0 = row16 (m ((c : Thread nD τ).loc main_arg5)) := by
  funext j
  rw [← V_main_v3]
  blk_ext [iblk, idx t0_0]

/-- Block 5 is its whole array: the query matrix. -/
theorem blk5 (c : Dev nD) : iblk m c 5 t0_0 = m ((c : Thread nD τ).loc main_arg6) := by
  funext j
  blk_point [iblk, V, idx t0_0]

/-- What the region finds in the operand holding the query bias. -/
theorem V_main_v4 (c : Dev nD) : V m c main_v4 = row16 (m ((c : Thread nD τ).loc main_arg7)) := by
  entry_read
  rfl

/-- Block 6 is its whole array: the query bias. -/
theorem blk6 (c : Dev nD) : iblk m c 6 t0_0 = row16 (m ((c : Thread nD τ).loc main_arg7)) := by
  funext j
  rw [← V_main_v4]
  blk_ext [iblk, idx t0_0]

/-- Block 7 is its whole array: the value matrix. -/
theorem blk7 (c : Dev nD) : iblk m c 7 t0_0 = m ((c : Thread nD τ).loc main_arg8) := by
  funext j
  blk_point [iblk, V, idx t0_0]

/-- What the region finds in the operand holding the value bias. -/
theorem V_main_v5 (c : Dev nD) : V m c main_v5 = row16 (m ((c : Thread nD τ).loc main_arg9)) := by
  entry_read
  rfl

/-- Block 8 is its whole array: the value bias. -/
theorem blk8 (c : Dev nD) : iblk m c 8 t0_0 = row16 (m ((c : Thread nD τ).loc main_arg9)) := by
  funext j
  rw [← V_main_v5]
  blk_ext [iblk, idx t0_0]

/-- Block 9 is its whole array: the skip matrix. -/
theorem blk9 (c : Dev nD) : iblk m c 9 t0_0 = m ((c : Thread nD τ).loc main_arg10) := by
  funext j
  blk_point [iblk, V, idx t0_0]

/-- What the region finds in the operand holding the bias added after the aggregation. -/
theorem V_main_v6 (c : Dev nD) : V m c main_v6 = row16 (m ((c : Thread nD τ).loc main_arg11)) := by
  entry_read
  rfl

/-- Block 10 is its whole array: the bias added after the aggregation. -/
theorem blk10 (c : Dev nD) : iblk m c 10 t0_0 = row16 (m ((c : Thread nD τ).loc main_arg11)) := by
  funext j
  rw [← V_main_v6]
  blk_ext [iblk, idx t0_0]

/-- What the region finds in the operand holding the scale of the normalisation. -/
theorem V_main_v7 (c : Dev nD) : V m c main_v7 = row16 (m ((c : Thread nD τ).loc main_arg12)) := by
  entry_read
  rfl

/-- Block 11 is its whole array: the scale of the normalisation. -/
theorem blk11 (c : Dev nD) : iblk m c 11 t0_0 = row16 (m ((c : Thread nD τ).loc main_arg12)) := by
  funext j
  rw [← V_main_v7]
  blk_ext [iblk, idx t0_0]

/-- What the region finds in the operand holding the shift of the normalisation. -/
theorem V_main_v8 (c : Dev nD) : V m c main_v8 = row16 (m ((c : Thread nD τ).loc main_arg13)) := by
  entry_read
  rfl

/-- Block 12 is its whole array: the shift of the normalisation. -/
theorem blk12 (c : Dev nD) : iblk m c 12 t0_0 = row16 (m ((c : Thread nD τ).loc main_arg13)) := by
  funext j
  rw [← V_main_v8]
  blk_ext [iblk, idx t0_0]

/-- Block 13 is its whole array: the last matrix. -/
theorem blk13 (c : Dev nD) : iblk m c 13 t0_0 = m ((c : Thread nD τ).loc main_arg14) := by
  funext j
  blk_point [iblk, V, idx t0_0]

/-- What the region finds in the operand holding the last bias. -/
theorem V_main_v9 (c : Dev nD) : V m c main_v9 = row10 (m ((c : Thread nD τ).loc main_arg15)) := by
  entry_read
  rfl

/-- Block 14 is its whole array: the last bias. -/
theorem blk14 (c : Dev nD) : iblk m c 14 t0_0 = row10 (m ((c : Thread nD τ).loc main_arg15)) := by
  funext j
  rw [← V_main_v9]
  blk_ext [iblk, idx t0_0]

/-- The first stage's payload reads its three blocks whole. -/
theorem pay11_eq (x0 : Vec Ideal S1024x784 .bf16) (x1 : Vec Ideal S784x32 .f32) (x2 : Vec Ideal S1x32 .f32)
    (x3 : Vec Ideal S16x16 .f32) (x4 : Vec Ideal S1x16 .f32) (x5 : Vec Ideal S16x16 .f32) (x6 : Vec Ideal S1x16 .f32)
    (x7 : Vec Ideal S16x16 .f32) (x8 : Vec Ideal S1x16 .f32) (x9 : Vec Ideal S16x16 .f32) (x10 : Vec Ideal S1x16 .f32)
    (x11 : Vec Ideal S1x16 .f32) (x12 : Vec Ideal S1x16 .f32) (x13 : Vec Ideal S8x10 .f32) (x14 : Vec Ideal S1x10 .f32) :
    k0_pay11 x0 x1 x2 x3 x4 x5 x6 x7 x8 x9 x10 x11 x12 x13 x14 = k0_pay4 x0 x1 x2 := by
  unfold k0_pay11
  have h0 : View.ld x0 r0_0 = x0 := View.ld_unit_zero (by decide) _ _
  have h1 : View.ld x1 r0_1 = x1 := View.ld_unit_zero (by decide) _ _
  have h2 : View.ld x2 r0_2 = x2 := View.ld_unit_zero (by decide) _ _
  exact congr (congr (congrArg k0_pay4 h0) h1) h2

/-- After the run the result array is the body's function of the argument arrays, the vectors as single rows. -/
theorem final (c : Dev nD) : (dats m 0 c).arrAt 15 (cfgs 0).N
    = body (rows m c) (m ((c : Thread nD τ).loc main_arg2)) (row32 (m ((c : Thread nD τ).loc main_arg3)))
        (m ((c : Thread nD τ).loc main_arg4)) (row16 (m ((c : Thread nD τ).loc main_arg5)))
        (m ((c : Thread nD τ).loc main_arg6)) (row16 (m ((c : Thread nD τ).loc main_arg7)))
        (m ((c : Thread nD τ).loc main_arg8)) (row16 (m ((c : Thread nD τ).loc main_arg9)))
        (m ((c : Thread nD τ).loc main_arg10)) (row16 (m ((c : Thread nD τ).loc main_arg11)))
        (row16 (m ((c : Thread nD τ).loc main_arg12))) (row16 (m ((c : Thread nD τ).loc main_arg13)))
        (m ((c : Thread nD τ).loc main_arg14)) (row10 (m ((c : Thread nD τ).loc main_arg15))) := by
  refine (dats m 0 c).arrAt_eq_of_after_last 15 t0_0 (by decide +kernel) _ fun j => ?_
  blk_simp
  rw [after0_15]
  frame_out
  rw [blk0, blk1, blk2, blk3, blk4, blk5, blk6, blk7, blk8, blk9, blk10, blk11, blk12, blk13, blk14, pay11_eq]
  exact congrFun (congrArg _ rfl) _

end Cert.KernelIdeal.Arr

end
-- ==== Proof.Model.lean ====
/- The network as plain mathematics: what one image's row becomes, layer by layer. Both programs are read against this one
   description. The key's and the query's weights and biases, the convolution's bias, the normalisation's shift and the
   last layer may be infinite, so the gate's argument and every layer from the convolution on hold numbers of the
   extended line; what lies before is real. -/
module

public import Idealize.ShloMosaic.PureOps.Ideal.Laws
public import Idealize.ShloMosaic.Lib.Pointwise

@[expose] public section

noncomputable section

open Idealize.ShloMosaic

namespace Cert.Model

/-- The finite sum of real numbers, taken in the extended line, is their real sum. -/
theorem coe_sum {ι : Type} [Fintype ι] (f : ι → ℝ) : (∑ i, (f i : EReal)) = ((∑ i, f i : ℝ) : EReal) := by
  classical
  have h : ∀ s : Finset ι, (∑ i ∈ s, (f i : EReal)) = ((∑ i ∈ s, f i : ℝ) : EReal) := by
    intro s
    induction s using Finset.induction_on with
    | empty => simp
    | insert a s ha ih => rw [Finset.sum_insert ha, Finset.sum_insert ha, ih, EReal.coe_add]
  exact h _

/-- The logistic function of a real number is one half plus half the hyperbolic tangent of half of it. -/
theorem half_tanh_real (r : ℝ) : 2⁻¹ + 2⁻¹ * Real.tanh (2⁻¹ * r) = (1 + Real.exp (-r))⁻¹ := by
  have hb : (2⁻¹ * r) + (2⁻¹ * r) = r := by ring
  have ha := Real.exp_pos (2⁻¹ * r)
  have h2 : Real.exp (-r) = (Real.exp (2⁻¹ * r))⁻¹ * (Real.exp (2⁻¹ * r))⁻¹ := by
    rw [← Real.exp_neg, ← Real.exp_add]; congr 1; linarith
  rw [Real.tanh_eq_sinh_div_cosh, Real.sinh_eq, Real.cosh_eq, Real.exp_neg (2⁻¹ * r), h2]
  generalize Real.exp (2⁻¹ * r) = a at ha
  have : a ≠ 0 := ha.ne'
  have h3 : a * a + 1 ≠ 0 := by positivity
  field_simp
  ring

/-- The logistic function at minus infinity. -/
theorem logistic_bot : Ideal.logistic ⊥ = ((0 : ℝ) : EReal) := by
  have h : (1 : EReal) + ⊤ = ⊤ := EReal.coe_add_top 1
  simp [Ideal.logistic, Ideal.div, h]

/-- The logistic function at infinity. -/
theorem logistic_top : Ideal.logistic ⊤ = ((1 : ℝ) : EReal) := by simp [Ideal.logistic, Ideal.div]

/-- The same at every number of the extended line. -/
theorem half_tanh (z : EReal) : ((2⁻¹ : ℝ) : EReal) + ((2⁻¹ : ℝ) : EReal) * Ideal.tanh (((2⁻¹ : ℝ) : EReal) * z) = Ideal.logistic z := by
  induction z using EReal.rec with
  | bot =>
    rw [EReal.coe_mul_bot_of_pos (by norm_num), Ideal.tanh_bot]
    rw [logistic_bot, show (-1 : EReal) = ((-1 : ℝ) : EReal) from rfl, ← EReal.coe_mul, ← EReal.coe_add]
    norm_num
  | coe r =>
    rw [← EReal.coe_mul, Ideal.tanh_coe, ← EReal.coe_mul, ← EReal.coe_add, half_tanh_real, Ideal.logistic_coe]
  | top =>
    rw [EReal.coe_mul_top_of_pos (by norm_num), Ideal.tanh_top]
    rw [logistic_top, show (1 : EReal) = ((1 : ℝ) : EReal) from rfl, ← EReal.coe_mul, ← EReal.coe_add]
    norm_num

/-- The hyperbolic tangent of half a number, through the logistic function: a real number. -/
theorem tanh_half (z : EReal) : Ideal.tanh (((2⁻¹ : ℝ) : EReal) * z) = ((2 * (Ideal.logistic z).toReal - 1 : ℝ) : EReal) := by
  induction z using EReal.rec with
  | bot =>
    rw [EReal.coe_mul_bot_of_pos (by norm_num), Ideal.tanh_bot, logistic_bot, EReal.toReal_coe, show (-1 : EReal) = ((-1 : ℝ) : EReal) from rfl]
    norm_num
  | coe r =>
    rw [← EReal.coe_mul, Ideal.tanh_coe, Ideal.logistic_coe, EReal.toReal_coe, ← half_tanh_real]
    congr 1; ring
  | top =>
    rw [EReal.coe_mul_top_of_pos (by norm_num), Ideal.tanh_top, logistic_top, EReal.toReal_coe]
    rw [show (1 : EReal) = ((1 : ℝ) : EReal) from rfl]
    norm_num

/-- The logistic function is positive but at minus infinity. -/
theorem logistic_pos {z : EReal} (h : z ≠ ⊥) : 0 < (Ideal.logistic z).toReal := by
  induction z using EReal.rec with
  | bot => exact absurd rfl h
  | coe r => rw [Ideal.logistic_coe, EReal.toReal_coe]; positivity
  | top => rw [logistic_top, EReal.toReal_coe]; norm_num

/-- A real factor that is not negative distributes over a sum. -/
theorem coe_mul_sum {ι : Type} [Fintype ι] {a : ℝ} (ha : 0 ≤ a) (f : ι → EReal) : (a : EReal) * ∑ i, f i = ∑ i, (a : EReal) * f i := by
  classical
  have h : ∀ s : Finset ι, (a : EReal) * ∑ i ∈ s, f i = ∑ i ∈ s, (a : EReal) * f i := by
    intro s
    induction s using Finset.induction_on with
    | empty => simp
    | insert b s hb ih => rw [Finset.sum_insert hb, Finset.sum_insert hb, EReal.left_distrib_of_nonneg_of_ne_top (EReal.coe_nonneg.2 ha) (EReal.coe_ne_top a), ih]
  exact h _

/-- A sum none of whose terms is minus infinity is not minus infinity. -/
theorem sum_ne_bot {ι : Type} (s : Finset ι) (f : ι → EReal) (h : ∀ i, f i ≠ ⊥) : ∑ i ∈ s, f i ≠ ⊥ := by
  classical
  induction s using Finset.induction_on with
  | empty => simp
  | insert b s hb ih => rw [Finset.sum_insert hb]; exact EReal.add_ne_bot_iff.2 ⟨h b, ih⟩

/-- If moreover one of them is infinity, so is the sum. -/
theorem sum_top {ι : Type} [Fintype ι] (f : ι → EReal) (h : ∀ i, f i ≠ ⊥) (p : ι) (hp : f p = ⊤) : ∑ i, f i = ⊤ := by
  classical
  rw [← Finset.add_sum_erase _ f (Finset.mem_univ p), hp, EReal.top_add_of_ne_bot (sum_ne_bot _ f h)]

/-- If one of the terms is minus infinity, so is the sum. -/
theorem sum_bot {ι : Type} [Fintype ι] (f : ι → EReal) (p : ι) (hp : f p = ⊥) : ∑ i, f i = ⊥ := by
  classical
  rw [← Finset.add_sum_erase _ f (Finset.mem_univ p), hp, EReal.bot_add]

/-- A real summand's share of a real multiple is taken out. -/
theorem add_mul_coe (a t : ℝ) (z : EReal) : ((a : EReal) + z) * (t : EReal) = ((a * t : ℝ) : EReal) + z * (t : EReal) := by
  induction z using EReal.rec with
  | bot =>
    rw [EReal.add_bot]
    rcases lt_trichotomy t 0 with ht | ht | ht
    · rw [EReal.bot_mul_coe_of_neg ht, EReal.coe_add_top]
    · subst ht; simp
    · rw [EReal.bot_mul_coe_of_pos ht, EReal.add_bot]
  | coe r => rw [← EReal.coe_add, ← EReal.coe_mul, ← EReal.coe_mul, ← EReal.coe_add, add_mul]
  | top =>
    rw [EReal.coe_add_top]
    rcases lt_trichotomy t 0 with ht | ht | ht
    · rw [EReal.top_mul_coe_of_neg ht, EReal.add_bot]
    · subst ht; simp
    · rw [EReal.top_mul_coe_of_pos ht, EReal.coe_add_top]

/-- The logistic function takes real values only. -/
theorem logistic_real (z : EReal) : Ideal.logistic z = ((Ideal.logistic z).toReal : EReal) := by
  induction z using EReal.rec with
  | bot =>
    rw [logistic_bot, EReal.toReal_coe]
  | coe r => rw [Ideal.logistic_coe, EReal.toReal_coe]
  | top =>
    rw [logistic_top, EReal.toReal_coe]

/-- The even and the odd member of the pair `c` of thirty-two entries. -/
def lo16 (c : Fin 16) : Fin 32 := ⟨2 * c.val, by omega⟩
@[inherit_doc lo16] def hi16 (c : Fin 16) : Fin 32 := ⟨2 * c.val + 1, by omega⟩
/-- The even and the odd member of the pair `c` of sixteen entries. -/
def lo8 (c : Fin 8) : Fin 16 := ⟨2 * c.val, by omega⟩
@[inherit_doc lo8] def hi8 (c : Fin 8) : Fin 16 := ⟨2 * c.val + 1, by omega⟩

/-- The network's inputs, the last layer excepted: each a real number, or any number of the extended line. -/
structure Data where
  /-- The flattened images. -/
  X : Fin 1024 → Fin 784 → ℝ
  /-- The first layer. -/
  W1 : Fin 784 → Fin 32 → ℝ
  b1 : Fin 32 → ℝ
  /-- The gated convolution: key, query, value and skip. -/
  Wk : Fin 16 → Fin 16 → EReal
  bk : Fin 16 → EReal
  Wq : Fin 16 → Fin 16 → EReal
  bq : Fin 16 → EReal
  Wv : Fin 16 → Fin 16 → ℝ
  bv : Fin 16 → ℝ
  Ws : Fin 16 → Fin 16 → ℝ
  cb : Fin 16 → EReal
  /-- The normalisation's scale and shift. -/
  ga : Fin 16 → ℝ
  be : Fin 16 → EReal

/-- The reciprocal of the normalisation's standard deviation. -/
def s : ℝ := (Real.sqrt (2097173 / 2097152))⁻¹

variable (D : Data)

/-- The first layer, before the rectifier. -/
def lin (i : Fin 1024) (k : Fin 32) : ℝ := ∑ l, D.X i l * D.W1 l k + D.b1 k
/-- The node features: the larger of two neighbouring rectified entries. -/
def x2 (i : Fin 1024) (c : Fin 16) : ℝ := max (max (lin D i (lo16 c)) (lin D i (hi16 c))) 0
/-- A node's features times a sixteen by sixteen matrix. -/
def mul (W : Fin 16 → Fin 16 → ℝ) (i : Fin 1024) (c : Fin 16) : ℝ := ∑ l, x2 D i l * W l c
/-- The gate's argument: key plus query of the same node. -/
def arg (i : Fin 1024) (c : Fin 16) : EReal :=
  (∑ l, (x2 D i l : EReal) * D.Wk l c + D.bk c) + (∑ l, (x2 D i l : EReal) * D.Wq l c + D.bq c)
/-- The gate. -/
def gate (i : Fin 1024) (c : Fin 16) : ℝ := (Ideal.logistic (arg D i c)).toReal
/-- The message of one edge into node `i`. -/
def msg (i : Fin 1024) (c : Fin 16) : ℝ := gate D i c * (mul D D.Wv i c + D.bv c)
/-- What a node has of its own after the normalisation: its 1024 equal messages and its skip connection, scaled. -/
def own (i : Fin 1024) (c : Fin 16) : ℝ := (1024 * msg D i c + mul D D.Ws i c) * (D.ga c * s)
/-- What all nodes have in common: the convolution's bias scaled, and the shift. -/
def shift (c : Fin 16) : EReal := D.cb c * ((D.ga c * s : ℝ) : EReal) + D.be c
/-- The convolution normalised. -/
def x3 (i : Fin 1024) (c : Fin 16) : EReal := (own D i c : EReal) + shift D c
/-- The larger of two neighbouring entries of it. -/
def x4 (i : Fin 1024) (d : Fin 8) : EReal := max (x3 D i (lo8 d)) (x3 D i (hi8 d))
/-- The similarity of two images. -/
def dot (i j : Fin 1024) : EReal := ∑ d, x4 D i d * x4 D j d
/-- Its logistic function: the weight of image `j` for image `i`. -/
def sig (i j : Fin 1024) : ℝ := (Ideal.logistic (dot D i j)).toReal
/-- The weights of image `i` summed. -/
def tot (i : Fin 1024) : ℝ := ∑ j, sig D i j
/-- The weighted mean of all images' entries, plus the image's own. -/
def x6 (i : Fin 1024) (d : Fin 8) : EReal := ∑ j, ((sig D i j / tot D i : ℝ) : EReal) * x4 D j d + x4 D i d
/-- The last layer. -/
def out (fW : Fin 8 → Fin 10 → EReal) (fb : Fin 10 → EReal) (i : Fin 1024) (o : Fin 10) : EReal :=
  ∑ d, x6 D i d * fW d o + fb o

/-! ## Up to the normalised convolution -/

/-- The node features are not negative. -/
theorem x2_nonneg (i : Fin 1024) (c : Fin 16) : 0 ≤ x2 D i c := le_max_right _ _

/-- The gate's argument with the two weights and the two biases added first. -/
theorem arg_folded (i : Fin 1024) (c : Fin 16) :
    ∑ l, (x2 D i l : EReal) * (D.Wk l c + D.Wq l c) + (D.bk c + D.bq c) = arg D i c := by
  have h : ∑ l, (x2 D i l : EReal) * (D.Wk l c + D.Wq l c) = ∑ l, (x2 D i l : EReal) * D.Wk l c + ∑ l, (x2 D i l : EReal) * D.Wq l c := by
    rw [← Finset.sum_add_distrib]
    exact Finset.sum_congr rfl fun l _ => EReal.left_distrib_of_nonneg_of_ne_top (EReal.coe_nonneg.2 (x2_nonneg D i l)) (EReal.coe_ne_top _) _ _
  rw [h]; unfold arg; abel

/-- A node's own part with the scale folded into its weights and the value taken 1024 times. -/
theorem own_folded (i : Fin 1024) (c : Fin 16) :
    gate D i c * (∑ l, x2 D i l * (D.Wv l c * (1024 * (D.ga c * s))) + D.bv c * (1024 * (D.ga c * s)))
      + ∑ l, x2 D i l * (D.Ws l c * (D.ga c * s)) = own D i c := by
  have h : ∀ (W : Fin 16 → Fin 16 → ℝ) (t : ℝ), ∑ l, x2 D i l * (W l c * t) = mul D W i c * t := fun W t => by
    unfold mul; rw [Finset.sum_mul]; exact Finset.sum_congr rfl fun l _ => by ring
  rw [h, h]; unfold own msg; ring

/-- The normalised convolution with the bias added before the scale. -/
theorem x3_plain (i : Fin 1024) (c : Fin 16) :
    ((((1024 * msg D i c + mul D D.Ws i c : ℝ) : EReal) + D.cb c) * (s : EReal)) * (D.ga c : EReal) + D.be c = x3 D i c := by
  rw [mul_assoc, ← EReal.coe_mul, add_mul_coe, add_assoc, mul_comm s]
  rfl

/-! ## The attention

An entry of the normalised convolution is infinite only through what all nodes have in common, so a column of the pooled
array is real at every image, infinity at every image, or minus infinity at every image. -/

/-- The three kinds of column. -/
theorem x4_col (d : Fin 8) : (∃ r : Fin 1024 → ℝ, ∀ i, x4 D i d = (r i : EReal)) ∨ (∀ i, x4 D i d = ⊤) ∨ (∀ i, x4 D i d = ⊥) := by
  have ht : ∀ c, shift D c = ⊤ → ∀ i, x3 D i c = ⊤ := fun c h i => by unfold x3; rw [h, EReal.coe_add_top]
  have hb : ∀ c, shift D c = ⊥ → ∀ i, x3 D i c = ⊥ := fun c h i => by unfold x3; rw [h, EReal.add_bot]
  have hr : ∀ c (r : ℝ), shift D c = r → ∀ i, x3 D i c = ((own D i c + r : ℝ) : EReal) := fun c r h i => by
    unfold x3; rw [h, EReal.coe_add]
  unfold x4
  induction hp : shift D (lo8 d) using EReal.rec with
  | bot =>
    simp only [hb _ hp, max_bot_left]
    induction hq : shift D (hi8 d) using EReal.rec with
    | bot => exact .inr (.inr (hb _ hq))
    | coe r => exact .inl ⟨_, hr _ r hq⟩
    | top => exact .inr (.inl (ht _ hq))
  | coe r =>
    induction hq : shift D (hi8 d) using EReal.rec with
    | bot => simp only [hb _ hq, max_bot_right]; exact .inl ⟨_, hr _ r hp⟩
    | coe r' =>
      refine .inl ⟨fun i => max (own D i (lo8 d) + r) (own D i (hi8 d) + r'), fun i => ?_⟩
      rw [hr _ r hp, hr _ r' hq]
      exact (EReal.coe_strictMono.monotone.map_max).symm
    | top => simp only [ht _ hq, max_top_right]; exact .inr (.inl fun _ => trivial)
  | top => simp only [ht _ hp, max_top_left]; exact .inr (.inl fun _ => trivial)

/-- Two entries of one column have a product that is not minus infinity. -/
theorem x4_mul (i j : Fin 1024) (d : Fin 8) : x4 D i d * x4 D j d ≠ ⊥ := by
  rcases x4_col D d with ⟨r, h⟩ | h | h
  · rw [h, h, ← EReal.coe_mul]; exact EReal.coe_ne_bot _
  · rw [h, h, EReal.top_mul_top]; exact top_ne_bot
  · rw [h, h, EReal.bot_mul_bot]; exact top_ne_bot

/-- No similarity is minus infinity. -/
theorem dot_ne_bot (i j : Fin 1024) : dot D i j ≠ ⊥ := sum_ne_bot _ _ (x4_mul D i j)

/-- An infinite column makes every similarity infinity. -/
theorem dot_top (d : Fin 8) (h : ∀ i j, x4 D i d * x4 D j d = ⊤) (i j : Fin 1024) : dot D i j = ⊤ :=
  sum_top _ (x4_mul D i j) d (h i j)

/-- Every weight is positive. -/
theorem sig_pos (i j : Fin 1024) : 0 < sig D i j := logistic_pos (dot_ne_bot D i j)
/-- So their sum is. -/
theorem tot_pos (i : Fin 1024) : 0 < tot D i := Finset.sum_pos (fun j _ => sig_pos D i j) ⟨0, Finset.mem_univ _⟩
/-- And every share. -/
theorem share_pos (i j : Fin 1024) : 0 < sig D i j / tot D i := div_pos (sig_pos D i j) (tot_pos D i)

/-- The hyperbolic tangent of half a similarity, in terms of the weight. -/
theorem tanh_dot (i j : Fin 1024) :
    Ideal.tanh (∑ d, x4 D i d * ((2⁻¹ : ℝ) : EReal) * x4 D j d) = ((2 * sig D i j - 1 : ℝ) : EReal) := by
  have h : ∑ d, x4 D i d * ((2⁻¹ : ℝ) : EReal) * x4 D j d = ((2⁻¹ : ℝ) : EReal) * dot D i j := by
    unfold dot; rw [coe_mul_sum (by norm_num)]
    exact Finset.sum_congr rfl fun d _ => by rw [mul_comm (x4 D i d), mul_assoc]
  rw [h, tanh_half]; rfl

/-- Half of a column's sum weighted by the tangents plus its plain sum. -/
def half (i : Fin 1024) (f : Fin 1024 → EReal) : EReal :=
  ((2⁻¹ : ℝ) : EReal) * (∑ j, Ideal.tanh (∑ d, x4 D i d * ((2⁻¹ : ℝ) : EReal) * x4 D j d) * f j + ∑ j, f j)

/-- At a real column it is the sum weighted by the weights. -/
theorem half_coe (i : Fin 1024) (f : Fin 1024 → ℝ) : half D i (fun j => (f j : EReal)) = ((∑ j, sig D i j * f j : ℝ) : EReal) := by
  unfold half
  simp only [tanh_dot, ← EReal.coe_mul, coe_sum, ← EReal.coe_add]
  congr 1
  rw [← Finset.sum_add_distrib, Finset.mul_sum]
  exact Finset.sum_congr rfl fun j _ => by ring

/-- At the column of ones it is the weights' sum. -/
theorem half_one (i : Fin 1024) : half D i (fun _ => ((1 : ℝ) : EReal)) = (tot D i : EReal) := by
  rw [half_coe D i (fun _ => 1)]; unfold tot; simp only [mul_one]

/-- At an infinite column, all of whose weights are one, it is infinite as the column is. -/
theorem half_infinite (i : Fin 1024) (d : Fin 8) (h : ∀ i j, x4 D i d * x4 D j d = ⊤) (f : Fin 1024 → EReal) :
    half D i f = ((2⁻¹ : ℝ) : EReal) * (∑ j, f j + ∑ j, f j) := by
  have hs : ∀ j, sig D i j = 1 := fun j => by unfold sig; rw [dot_top D d h, logistic_top, EReal.toReal_coe]
  have h1 : ∀ j, ((2 * sig D i j - 1 : ℝ) : EReal) * f j = f j := fun j => by
    rw [hs, show (2 * 1 - 1 : ℝ) = 1 by norm_num, EReal.coe_one, one_mul]
  unfold half
  simp only [tanh_dot, h1]

/-- The weighted mean, divided after the sum, is the one divided before. -/
theorem mean_eq (i : Fin 1024) (d : Fin 8) : Ideal.div (half D i (fun j => x4 D j d)) (half D i (fun _ => ((1 : ℝ) : EReal)))
    = ∑ j, ((sig D i j / tot D i : ℝ) : EReal) * x4 D j d := by
  have hp : 0 < 1 / tot D i := one_div_pos.2 (tot_pos D i)
  rw [half_one, Ideal.div_coe (tot_pos D i).ne']
  rcases x4_col D d with ⟨r, h⟩ | h | h
  · simp only [h, half_coe, ← EReal.coe_mul, coe_sum]
    congr 1
    rw [Finset.sum_mul]; exact Finset.sum_congr rfl fun j _ => by ring
  · rw [half_infinite D i d (fun i j => by rw [h, h, EReal.top_mul_top])]
    simp only [h, EReal.coe_mul_top_of_pos (share_pos D i _)]
    rw [sum_top (fun _ : Fin 1024 => (⊤ : EReal)) (fun _ => top_ne_bot) 0 rfl, EReal.top_add_top, EReal.coe_mul_top_of_pos (by norm_num),
      EReal.top_mul_coe_of_pos hp]
  · rw [half_infinite D i d (fun i j => by rw [h, h, EReal.bot_mul_bot])]
    simp only [h, EReal.coe_mul_bot_of_pos (share_pos D i _)]
    rw [sum_bot (fun _ : Fin 1024 => (⊥ : EReal)) 0 rfl, EReal.bot_add, EReal.coe_mul_bot_of_pos (by norm_num),
      EReal.bot_mul_coe_of_pos hp]

end Cert.Model

end
-- ==== Proof.KernelValue.lean ====
/- What the kernel's body computes, entry by entry, is the network of `Model.lean`: each payload is read at an index, the
   entries of the blocks before the gate, of the value, of the skip and of the scale being real numbers. -/
module

public import proofs.«01_k».proof.Proof.KernelArray
public import proofs.«01_k».proof.Proof.Model
public import Idealize.ShloMosaic.Lib.Pointwise

@[expose] public section

set_option maxRecDepth 16384

noncomputable section

open Idealize.ShloMosaic Idealize.ShloMosaic.TcCoe Idealize.SL.Sem

namespace Cert.KernelIdeal.Pay

open Cert.KernelIdeal Cert.KernelIdeal.Gen Cert.Model

/-- The pattern of one half. -/
theorem half_bits : Ideal.ofBits .f32 0x3F000000#32 = ((2⁻¹ : ℝ) : EReal) := by
  simp [Ideal.ofBits, Ideal.ieee, -EReal.coe_mul]; norm_num

/-- The pattern of 1024. -/
theorem nodes_bits : Ideal.ofBits .f32 0x44800000#32 = ((1024 : ℝ) : EReal) := by
  simp [Ideal.ofBits, Ideal.ieee, -EReal.coe_mul]; norm_num

/-- The named constant is the reciprocal of the standard deviation. -/
theorem named_s : Named.named (F := Ideal) Cert.KernelIdeal.κ "inv_std" (φ := .f32) 0x3F7FFFAC#32 = (s : EReal) :=
  IdealRules.named_const.ideal_named_scalar _ _ _ _ rfl

/-- The integer one as a number. -/
theorem one_bits : (FloatOps.sitofp (F := Ideal) FTy.f32 1#32 : EReal) = ((1 : ℝ) : EReal) := by
  simp [FloatOps.sitofp]

/-- The bit of an equality test as a number: one when the two words are equal, zero otherwise. -/
theorem bit_val (a b : BitVec 32) : (FloatOps.sitofp (F := Ideal) FTy.f32 (BitVec.setWidth 32 (IntOp.cmpi CmpIPredicate.eq a b)) : EReal)
    = (((if a = b then 1 else 0 : ℝ)) : EReal) := by
  by_cases h : a = b
  · simp [IntOp.cmpi, h, FloatOps.sitofp]
  · have hb : (a == b) = false := by simpa using h
    simp [IntOp.cmpi, h, hb, FloatOps.sitofp]

/-- The larger of two real numbers, taken in the extended line. -/
theorem coe_max (a b : ℝ) : max (a : EReal) (b : EReal) = ((max a b : ℝ) : EReal) :=
  (EReal.coe_strictMono.monotone.map_max).symm

/-- Zero as a real number of the extended line. -/
theorem zero_eq : (0 : EReal) = ((0 : ℝ) : EReal) := rfl

/-- The first selector's test of thirty-two positions: the even member of the pair. -/
theorem test_lo16 : ∀ (c : Fin 16) (k : Fin 32), BitVec.ofNat 32 k.val = IntOp.muli 2#32 (BitVec.ofNat 32 c.val) ↔ k = lo16 c := by
  decide +kernel

/-- The second selector's: the odd member. -/
theorem test_hi16 : ∀ (c : Fin 16) (k : Fin 32),
    BitVec.ofNat 32 k.val = IntOp.addi (IntOp.muli 2#32 (BitVec.ofNat 32 c.val)) 1#32 ↔ k = hi16 c := by
  decide +kernel

/-- A row's sum against the test "the position is `p`" is its entry at `p`. -/
theorem sum_pick {n : ℕ} (f : Fin n → ℝ) (p : Fin n) (q : Fin n → Prop) [DecidablePred q] (hq : ∀ k, q k ↔ k = p) :
    ∑ k, f k * (if q k then 1 else 0 : ℝ) = f p := by
  simp [hq]

/-- The same of a row of the extended line. -/
theorem sum_pick' {n : ℕ} (f : Fin n → EReal) (p : Fin n) :
    ∑ k, f k * ((if k = p then 1 else 0 : ℝ) : EReal) = f p := by
  have h : ∀ k, f k * ((if k = p then 1 else 0 : ℝ) : EReal) = if k = p then f k else 0 := fun k => by split <;> simp
  simp [h]

/-- Entry of the first selector of sixteen entries: one at the even member of the pair. -/
theorem pay2_at (k : Fin 16) (d : Fin 8) : k0_pay2 (F := Ideal) (ix2 k d) = ((if k = lo8 d then 1 else 0 : ℝ) : EReal) := by
  pointwise [k0_pay2]
  rw [bit_val]
  congr 2
  fin_cases k <;> fin_cases d <;> decide

/-- Entry of the second selector: one at the odd member. -/
theorem pay3_at (k : Fin 16) (d : Fin 8) : k0_pay3 (F := Ideal) (ix2 k d) = ((if k = hi8 d then 1 else 0 : ℝ) : EReal) := by
  pointwise [k0_pay3]
  rw [bit_val]
  congr 2
  fin_cases k <;> fin_cases d <;> decide

variable (D : Data)

/-- The first stage's result: the pooled features. -/
theorem pay4_at (x : FVec Ideal S1024x784 .bf16) (W1 : FVec Ideal S784x32 .f32) (b1 : FVec Ideal S1x32 .f32)
    (hx : ∀ i l, x (ix2 i l) = (D.X i l : EReal)) (hW : ∀ l k, W1 (ix2 l k) = (D.W1 l k : EReal)) (hb : ∀ k, b1 (ix2 0 k) = (D.b1 k : EReal))
    (i : Fin 1024) (c : Fin 16) : k0_pay4 (F := Ideal) x W1 b1 (ix2 i c) = (x2 D i c : EReal) := by
  pointwise [k0_pay4]
  simp only [hx, hW, hb, bit_val, ← EReal.coe_mul, ← EReal.coe_add, coe_sum]
  rw [sum_pick _ (lo16 c) _ (test_lo16 c), sum_pick _ (hi16 c) _ (test_hi16 c), coe_max, zero_eq, coe_max]
  rfl

/-- The scale of the normalisation times the reciprocal standard deviation. -/
theorem pay5_at (ga : FVec Ideal S1x16 .f32) (hg : ∀ c, ga (ix2 0 c) = (D.ga c : EReal)) (c : Fin 16) :
    k0_pay5 (F := Ideal) ga (ix2 0 c) = ((D.ga c * s : ℝ) : EReal) := by
  pointwise [k0_pay5]
  rw [named_s, hg, ← EReal.coe_mul]

/-- The gate, computed through the hyperbolic tangent. -/
theorem pay6_at (X2 : FVec Ideal S1024x16 .f32) (Wk Wq : FVec Ideal S16x16 .f32) (bk bq : FVec Ideal S1x16 .f32)
    (hX : ∀ i c, X2 (ix2 i c) = (x2 D i c : EReal)) (hk : ∀ l c, Wk (ix2 l c) = D.Wk l c)
    (hq : ∀ l c, Wq (ix2 l c) = D.Wq l c) (hbk : ∀ c, bk (ix2 0 c) = D.bk c) (hbq : ∀ c, bq (ix2 0 c) = D.bq c)
    (i : Fin 1024) (c : Fin 16) : k0_pay6 (F := Ideal) X2 Wk Wq bk bq (ix2 i c) = (gate D i c : EReal) := by
  pointwise [k0_pay6]
  simp only [hX, hk, hq, hbk, hbq, half_bits]
  rw [half_tanh, arg_folded]
  exact logistic_real _

/-- The value, its weights and bias scaled. -/
theorem pay7_at (X2 : FVec Ideal S1024x16 .f32) (Wv : FVec Ideal S16x16 .f32) (bv ga : FVec Ideal S1x16 .f32)
    (hX : ∀ i c, X2 (ix2 i c) = (x2 D i c : EReal)) (hg : ∀ c, ga (ix2 0 c) = (D.ga c : EReal))
    (hv : ∀ l c, Wv (ix2 l c) = (D.Wv l c : EReal)) (hb : ∀ c, bv (ix2 0 c) = (D.bv c : EReal))
    (i : Fin 1024) (c : Fin 16) : k0_pay7 (F := Ideal) X2 ga Wv bv (ix2 i c)
      = ((∑ l, x2 D i l * (D.Wv l c * (1024 * (D.ga c * s))) + D.bv c * (1024 * (D.ga c * s)) : ℝ) : EReal) := by
  pointwise [k0_pay7]
  simp only [hX, hv, hb, nodes_bits, pay5_at D ga hg, ← EReal.coe_mul, ← EReal.coe_add, coe_sum]

/-- The skip matrix scaled. -/
theorem pay8_at (Ws : FVec Ideal S16x16 .f32) (ga : FVec Ideal S1x16 .f32) (hg : ∀ c, ga (ix2 0 c) = (D.ga c : EReal))
    (hw : ∀ l c, Ws (ix2 l c) = (D.Ws l c : EReal)) (l c : Fin 16) :
    k0_pay8 (F := Ideal) ga Ws (ix2 l c) = ((D.Ws l c * (D.ga c * s) : ℝ) : EReal) := by
  pointwise [k0_pay8]
  rw [pay5_at D ga hg, hw, ← EReal.coe_mul]

/-- The last stage, from the normalised convolution on: the attention over all images and the last product. -/
theorem pay9_at (X2 G V : FVec Ideal S1024x16 .f32) (g cb be : FVec Ideal S1x16 .f32) (W : FVec Ideal S16x16 .f32) (fW : FVec Ideal S8x10 .f32)
    (h3 : ∀ i c, G (ix2 i c) * V (ix2 i c) + ∑ l, X2 (ix2 i l) * W (ix2 l c) + (cb (ix2 0 c) * g (ix2 0 c) + be (ix2 0 c)) = x3 D i c)
    (i : Fin 1024) (o : Fin 10) : k0_pay9 (F := Ideal) k0_pay2 k0_pay3 X2 g G V W cb be fW (ix2 i o)
      = ∑ d, x6 D i d * fW (ix2 d o) := by
  have h4 : ∀ (i : Fin 1024) (d : Fin 8), max (x3 D i (lo8 d)) (x3 D i (hi8 d)) = x4 D i d := fun _ _ => rfl
  pointwise [k0_pay9]
  simp only [h3, pay2_at, pay3_at, half_bits, one_bits, sum_pick', h4]
  refine Finset.sum_congr rfl fun d _ => ?_
  exact congrArg (fun z => (z + x4 D i d) * fW (ix2 d o)) (mean_eq D i d)

/-- The body is the network's result. -/
theorem body_at (x : FVec Ideal S1024x784 .bf16) (W1 : FVec Ideal S784x32 .f32) (b1 : FVec Ideal S1x32 .f32)
    (Wk : FVec Ideal S16x16 .f32) (bk : FVec Ideal S1x16 .f32) (Wq : FVec Ideal S16x16 .f32) (bq : FVec Ideal S1x16 .f32)
    (Wv : FVec Ideal S16x16 .f32) (bv : FVec Ideal S1x16 .f32) (Ws : FVec Ideal S16x16 .f32) (cb : FVec Ideal S1x16 .f32)
    (ga : FVec Ideal S1x16 .f32) (be : FVec Ideal S1x16 .f32) (fW : FVec Ideal S8x10 .f32) (fb : FVec Ideal S1x10 .f32)
    (hx : ∀ i l, x (ix2 i l) = (D.X i l : EReal)) (hW : ∀ l k, W1 (ix2 l k) = (D.W1 l k : EReal)) (hb : ∀ k, b1 (ix2 0 k) = (D.b1 k : EReal))
    (hk : ∀ l c, Wk (ix2 l c) = D.Wk l c) (hbk : ∀ c, bk (ix2 0 c) = D.bk c)
    (hq : ∀ l c, Wq (ix2 l c) = D.Wq l c) (hbq : ∀ c, bq (ix2 0 c) = D.bq c)
    (hv : ∀ l c, Wv (ix2 l c) = (D.Wv l c : EReal)) (hbv : ∀ c, bv (ix2 0 c) = (D.bv c : EReal))
    (hs : ∀ l c, Ws (ix2 l c) = (D.Ws l c : EReal)) (hcb : ∀ c, cb (ix2 0 c) = D.cb c)
    (hga : ∀ c, ga (ix2 0 c) = (D.ga c : EReal)) (hbe : ∀ c, be (ix2 0 c) = D.be c) (i : Fin 1024) (o : Fin 10) :
    Arr.body x W1 b1 Wk bk Wq bq Wv bv Ws cb ga be fW fb (ix2 i o)
      = out D (fun d o => fW (ix2 d o)) (fun o => fb (ix2 0 o)) i o := by
  have h2 := pay4_at D x W1 b1 hx hW hb
  have h3 := fun i c => (pay6_at D _ Wk Wq bk bq h2 hk hq hbk hbq i c)
  pointwise [Arr.body, k0_pay1, k0_pay10]
  rw [pay9_at D]
  · rfl
  · intro i c
    simp only [h2, h3, pay7_at D _ Wv bv ga h2 hga hv hbv, pay8_at D Ws ga hga hs, pay5_at D ga hga, hcb, hbe,
      ← EReal.coe_mul, coe_sum]
    rw [← EReal.coe_add, own_folded]
    rfl

end Cert.KernelIdeal.Pay

end
-- ==== Proof.RefEdges.lean ====
/- The reference's edges. Its edge list has 1048576 edges, edge `e` running from node `e % 1024` to itself, so a gather
   at the edges reads row `e % 1024` and the scatter-add at the edges sums 1024 updates at each node. -/
module

public import proofs.«01_k».proof.Proof.Gen.ReferenceIdeal.Read
public import proofs.«01_k».proof.Proof.Model
public import Idealize.ShloMosaic.Lib.Pointwise
public import Idealize.ShloMosaic.Lib.Routing.Ops
public import Idealize.ShloMosaic.Lib.Routing.OpsPair

@[expose] public section

set_option maxRecDepth 16384

noncomputable section

open Idealize.ShloMosaic Idealize.ShloMosaic.TcCoe Idealize.SL.Sem

namespace Cert.ReferenceIdeal.Edges

open Cert.ReferenceIdeal Cert.ReferenceIdeal.Gen Cert.ReferenceIdeal.Read

/-- The node at both ends of edge `e`. -/
def node (e : Fin 1048576) : Fin 1024 := ⟨e.val % 1024, Nat.mod_lt _ (by norm_num)⟩

/-- The edge list's word of edge `e` is its node's number. -/
theorem v3_at (e : Fin 1048576) : val_main_v3 (F := Ideal) (ix1 e) = BitVec.ofNat 32 (node e).val := by
  rw [val_main_v3_apply, val_main_v2_apply, val_main_v1_apply, val_main_v0_apply]
  show BitVec.ofNat 32 (0 * 1024 + e.val % 1024) = _
  rw [Nat.zero_mul, Nat.zero_add]
  rfl

/-- The wrap of a negative index leaves a node's number as it is. -/
theorem wrap_node (e : Fin 1048576) (a : BitVec 32) :
    Scalar.select (IntOp.cmpi .slt (BitVec.ofNat 32 (node e).val) 0#32) a (BitVec.ofNat 32 (node e).val) = BitVec.ofNat 32 (node e).val := by
  refine Routing.wrap_of_lt _ _ ?_
  have h := (node e).isLt
  rw [BitVec.toNat_ofNat]
  exact lt_of_le_of_lt (Nat.mod_le _ _) (by omega)

/-- The three index columns of the gathers and the one of the scatter hold the node's number. -/
theorem v29_at (e : Fin 1048576) : val_main_v29 (F := Ideal) (ix2 e 0) = BitVec.ofNat 32 (node e).val := by
  pointwise [val_main_v29, val_main_v28, val_main_v27, val_main_v26, val_main_v25, val_main_v24, val_main_c, val_main_c_0]
  rw [v3_at]
  exact wrap_node e _

theorem v36_at (e : Fin 1048576) : val_main_v36 (F := Ideal) (ix2 e 0) = BitVec.ofNat 32 (node e).val := by
  pointwise [val_main_v36, val_main_v35, val_main_v34, val_main_v33, val_main_v32, val_main_v31, val_main_c_1, val_main_c_2]
  rw [v3_at]
  exact wrap_node e _

theorem v50_at (e : Fin 1048576) : val_main_v50 (F := Ideal) (ix2 e 0) = BitVec.ofNat 32 (node e).val := by
  pointwise [val_main_v50, val_main_v49, val_main_v48, val_main_v47, val_main_v46, val_main_v45, val_main_c_5, val_main_c_6]
  rw [v3_at]
  exact wrap_node e _

theorem v54_at (e : Fin 1048576) : val_main_v54 (F := Ideal) (ix2 e 0) = BitVec.ofNat 32 (node e).val := by
  pointwise [val_main_v54]
  exact v3_at e

/-- A gather at an index column of node numbers reads the node's row. -/
theorem gather_at (x : FVec Ideal S1024x16 .f32) (idx : IVec S1048576x1 32) (h : ∀ e : Fin 1048576, idx (ix2 e 0) = BitVec.ofNat 32 (node e).val)
    (e : Fin 1048576) (c : Fin 16) :
    Host.gather gather_S1024x16_S1048576x1_S1048576x16_1_0_n_n_0_1_116 x idx (ix2 e c) = x (ix2 (node e) c) :=
  Routing.gather_row gather_S1024x16_S1048576x1_S1048576x16_1_0_n_n_0_1_116 rfl rfl rfl rfl rfl x idx e c (node e) (h e) (by norm_num)

/-- The scatter's dimension numbers. -/
abbrev sd := scatter_S1024x16_S1048576x1_S1048576x16_1_0_0_1

/-- The update of edge `e` at column `b` lands at `(i, c)` exactly when `i` is the edge's node and `c` the column. -/
theorem lands (idx : IVec S1048576x1 32) (h : ∀ e : Fin 1048576, idx (ix2 e 0) = BitVec.ofNat 32 (node e).val)
    (e : Fin 1048576) (b : Fin 16) (i : Fin 1024) (c : Fin 16) :
    sd.resultIdx? (ix2 e b) idx = some (ix2 i c) ↔ node e = i ∧ b = c := by
  have hs0 : sd.start (ix2 e b) idx 0 = ((node e).val : Int) := by
    unfold ScatterDims.start
    rw [dif_pos (show (0 : Fin 2) ∈ sd.scatterDimsToOperandDims from List.mem_singleton.2 rfl)]
    have hsi : ∀ k, sd.siIdx (ix2 e b) k = ix2 e (0 : Fin 1) := by
      intro k
      funext a
      match a with
      | ⟨0, _⟩ => rfl
      | ⟨1, _⟩ => exact Subsingleton.elim (α := Fin 1) _ _
    rw [hsi, h, StableHlo.Predicate.toInt_ofNat_small _ (lt_trans (node e).isLt (by norm_num))]
  have hs1 : sd.start (ix2 e b) idx 1 = 0 := by
    unfold ScatterDims.start
    rw [dif_neg (show ¬ (1 : Fin 2) ∈ sd.scatterDimsToOperandDims from fun h => absurd (List.mem_singleton.1 h) (by decide : (1 : Fin 2) ≠ 0))]
  have hw0 : sd.window (ix2 e b) 0 = 0 := rfl
  have hw1 : sd.window (ix2 e b) 1 = b.val := rfl
  rw [Fin.ext_iff, Fin.ext_iff]
  refine (Routing.resultIdx?_ix2 sd (ix2 e b) idx i c).trans ?_
  rw [hs0, hs1, hw0, hw1]
  omega

/-- Of `m * n` consecutive numbers, `m` have a given remainder by `n`. -/
theorem sum_mod (m n : ℕ) (i : Fin n) (r : ℝ) : ∑ e : Fin (m * n), (if e.val % n = i.val then r else 0) = m * r := by
  rw [← (finProdFinEquiv (m := m) (n := n)).sum_comp, Fintype.sum_prod_type]
  have h : ∀ (a : Fin m) (b : Fin n), (finProdFinEquiv (a, b)).val % n = b.val := fun a b => by
    simp [finProdFinEquiv, Nat.mod_eq_of_lt b.isLt]
  simp only [h, ← Fin.ext_iff]
  simp

/-- 1024 edges end at each node. -/
theorem sum_edges (i : Fin 1024) (r : ℝ) : ∑ e : Fin 1048576, (if node e = i then r else 0) = 1024 * r := by
  have h := sum_mod 1024 1024 i r
  simp only [Nat.cast_ofNat] at h
  refine Eq.trans ?_ h
  refine Finset.sum_congr rfl fun e _ => ?_
  simp only [node, Fin.ext_iff]

/-- A scatter-add of updates that depend on the edge's node alone, onto zeros: 1024 times the node's update. -/
theorem scatter_at (z : FVec Ideal S1024x16 .f32) (hz : ∀ i c, z (ix2 i c) = 0) (idx : IVec S1048576x1 32)
    (h : ∀ e : Fin 1048576, idx (ix2 e 0) = BitVec.ofNat 32 (node e).val) (u : FVec Ideal S1048576x16 .f32) (f : Fin 1024 → Fin 16 → ℝ)
    (hu : ∀ e c, u (ix2 e c) = (f (node e) c : EReal)) (i : Fin 1024) (c : Fin 16) :
    Host.scatterAdd sd z idx u (ix2 i c) = ((1024 * f i c : ℝ) : EReal) := by
  have e1 : Host.scatterAdd sd z idx u (ix2 i c)
      = z (ix2 i c) + ∑ j ∈ Finset.univ.filter (fun j => sd.resultIdx? j idx = some (ix2 i c)), u j := rfl
  rw [e1, hz, zero_add, Finset.sum_filter]
  have e2 : ∀ e b, (if sd.resultIdx? (ix2 e b) idx = some (ix2 i c) then u (ix2 e b) else 0)
      = (((if node e = i then (if b = c then f i c else 0) else 0 : ℝ)) : EReal) := by
    intro e b
    simp only [lands idx h, hu]
    by_cases h1 : node e = i
    · by_cases h2 : b = c <;> simp [h1, h2]
    · simp [h1]
  have e3 : ∀ g : S1048576x16.Idx → EReal, ∑ j, g j = ∑ e : Fin 1048576, ∑ b : Fin 16, g (ix2 e b) := fun g => sum_idx2 g
  rw [e3]
  refine (Finset.sum_congr rfl fun e _ => Finset.sum_congr rfl fun b _ => e2 e b).trans ?_
  simp only [Model.coe_sum]
  have e4 : ∑ e : Fin 1048576, ∑ b : Fin 16, (if node e = i then (if b = c then f i c else 0) else 0 : ℝ)
      = ∑ e : Fin 1048576, (if node e = i then f i c else 0) := by
    refine Finset.sum_congr rfl fun e _ => ?_
    by_cases h1 : node e = i <;> simp [h1]
  rw [e4, sum_edges]

end Cert.ReferenceIdeal.Edges

end
-- ==== Proof.RefValue.lean ====
/- What the reference computes, entry by entry, is the network of `Model.lean`: its values are read stage by stage,
   the entries of the images, the first layer, the value, the skip and the scale being real numbers. -/
module

public import proofs.«01_k».proof.Proof.RefEdges

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Read Cert.Model

/-- The argument arrays' entries are the network's inputs. -/
structure Agrees (D : Data) (a0 : FVec Ideal S1024x28x28 .f32) (a2 : FVec Ideal S784x32 .f32) (a3 : FVec Ideal S32 .f32)
    (a4 : FVec Ideal S16x16 .f32) (a5 : FVec Ideal S16 .f32) (a6 : FVec Ideal S16x16 .f32) (a7 : FVec Ideal S16 .f32)
    (a8 : FVec Ideal S16x16 .f32) (a9 : FVec Ideal S16 .f32) (a10 : FVec Ideal S16x16 .f32) (a11 a12 a13 : FVec Ideal S16 .f32) : Prop where
  x : ∀ (i : Fin 1024) (l : Fin 784) (h1 : l.val / 28 < 28) (h2 : l.val % 28 < 28), a0 (ix3 i ⟨l.val / 28, h1⟩ ⟨l.val % 28, h2⟩) = (D.X i l : EReal)
  W1 : ∀ l k, a2 (ix2 l k) = (D.W1 l k : EReal)
  b1 : ∀ k, a3 (ix1 k) = (D.b1 k : EReal)
  Wk : ∀ l c, a4 (ix2 l c) = D.Wk l c
  bk : ∀ c, a5 (ix1 c) = D.bk c
  Wq : ∀ l c, a6 (ix2 l c) = D.Wq l c
  bq : ∀ c, a7 (ix1 c) = D.bq c
  Wv : ∀ l c, a8 (ix2 l c) = (D.Wv l c : EReal)
  bv : ∀ c, a9 (ix1 c) = (D.bv c : EReal)
  Ws : ∀ l c, a10 (ix2 l c) = (D.Ws l c : EReal)
  cb : ∀ c, a11 (ix1 c) = D.cb c
  ga : ∀ c, a12 (ix1 c) = (D.ga c : EReal)
  be : ∀ c, a13 (ix1 c) = D.be c

/-- The larger of two real numbers, taken in the extended line. -/
theorem max_coe (a b : ℝ) : max (a : EReal) (b : EReal) = ((max a b : ℝ) : EReal) :=
  (EReal.coe_strictMono.monotone.map_max).symm

/-- A maximum over two entries from minus infinity on is the larger of the two. -/
theorem fold_two (g : Fin 2 → EReal) : Finset.fold max (Ideal.ofBits .f32 0xFF800000#32) g Finset.univ = max (g 0) (g 1) := by
  have hb : Ideal.ofBits .f32 0xFF800000#32 = (⊥ : EReal) := by simp [Ideal.ofBits, Ideal.ieee]
  have hu : (Finset.univ : Finset (Fin 2)) = {0, 1} := rfl
  rw [hb, hu, Finset.fold_insert (by decide), Finset.fold_singleton, max_bot_right]

/-- The rectifier of two numbers then their maximum, in either order. -/
theorem relu_max (a b : ℝ) : max (max a 0) (max b 0) = max (max a b) 0 := by rw [max_max_max_comm, max_self]

/-- The reference's standard deviation. -/
theorem std_at (j : S_.Idx) : id (Host.sqrt (constant (F := Ideal) S_ .f32 0x3F800054#32)) j = ((Real.sqrt (2097173 / 2097152) : ℝ) : EReal) := by
  have hb : Ideal.ofBits .f32 0x3F800054#32 = ((2097173 / 2097152 : ℝ) : EReal) := by
    simp [Ideal.ofBits, Ideal.ieee, -EReal.coe_mul]; norm_num
  have e : id (Host.sqrt (constant (F := Ideal) S_ .f32 0x3F800054#32)) j = Ideal.sqrt (Ideal.ofBits .f32 0x3F800054#32) := rfl
  rw [e, hb, Ideal.sqrt_coe, if_neg (by norm_num)]

/-- It is not zero. -/
theorem std_ne : Real.sqrt (2097173 / 2097152) ≠ 0 := (Real.sqrt_pos.2 (by norm_num)).ne'

variable {D : Data} {a0 : FVec Ideal S1024x28x28 .f32} {a2 : FVec Ideal S784x32 .f32} {a3 : FVec Ideal S32 .f32}
    {a4 : FVec Ideal S16x16 .f32} {a5 : FVec Ideal S16 .f32} {a6 : FVec Ideal S16x16 .f32} {a7 : FVec Ideal S16 .f32}
    {a8 : FVec Ideal S16x16 .f32} {a9 : FVec Ideal S16 .f32} {a10 : FVec Ideal S16x16 .f32} {a11 a12 a13 : FVec Ideal S16 .f32}
    (A : Agrees D a0 a2 a3 a4 a5 a6 a7 a8 a9 a10 a11 a12 a13)

include A

/-- The first layer, rectified. -/
theorem v9_at (i : Fin 1024) (k : Fin 32) : val_main_v9 (F := Ideal) a0 a2 a3 (ix2 i k) = ((max (lin D i k) 0 : ℝ) : EReal) := by
  pointwise [val_main_v9, val_main_v8, val_main_v7, val_main_v6, val_main_v5, val_main_v4, val_main_call0_v0, val_main_call0_cst]
  simp only [A.x, A.W1, A.b1, ← EReal.coe_mul, ← EReal.coe_add, coe_sum]
  exact max_coe _ 0

/-- The node features. -/
theorem v11_at (i : Fin 1024) (c : Fin 16) : val_main_v11 (F := Ideal) a0 a2 a3 (ix2 i c) = (x2 D i c : EReal) := by
  pointwise [val_main_v11, val_main_v10, val_main_cst]
  rw [fold_two]
  simp only [v9_at A, max_coe, relu_max]
  have h0 : ∀ h, (⟨c.val * 2 + (0 : Fin 2).val, h⟩ : Fin 32) = lo16 c := fun h => Fin.ext (by simp [lo16]; omega)
  have h1 : ∀ h, (⟨c.val * 2 + (1 : Fin 2).val, h⟩ : Fin 32) = hi16 c := fun h => Fin.ext (by simp [hi16]; omega)
  rw [h0, h1]
  rfl

/-- The key, the query and the value of every node. -/
theorem v15_at (i : Fin 1024) (c : Fin 16) : val_main_v15 (F := Ideal) a0 a2 a3 a4 a5 (ix2 i c) = ∑ l, (x2 D i l : EReal) * D.Wk l c + D.bk c := by
  pointwise [val_main_v15, val_main_v14, val_main_v13, val_main_v12]
  simp only [v11_at A, A.Wk, A.bk]

theorem v19_at (i : Fin 1024) (c : Fin 16) : val_main_v19 (F := Ideal) a0 a2 a3 a6 a7 (ix2 i c) = ∑ l, (x2 D i l : EReal) * D.Wq l c + D.bq c := by
  pointwise [val_main_v19, val_main_v18, val_main_v17, val_main_v16]
  simp only [v11_at A, A.Wq, A.bq]

theorem v23_at (i : Fin 1024) (c : Fin 16) : val_main_v23 (F := Ideal) a0 a2 a3 a8 a9 (ix2 i c) = ((mul D D.Wv i c + D.bv c : ℝ) : EReal) := by
  pointwise [val_main_v23, val_main_v22, val_main_v21, val_main_v20]
  simp only [v11_at A, A.Wv, A.bv, ← EReal.coe_mul, ← EReal.coe_add, coe_sum]
  rfl

/-- The message of an edge is its node's. -/
theorem v52_at (e : Fin 1048576) (c : Fin 16) :
    val_main_v52 (F := Ideal) a0 a2 a3 a4 a5 a6 a7 a8 a9 (ix2 e c) = (msg D (Edges.node e) c : EReal) := by
  have h30 : val_main_v30 (F := Ideal) a0 a2 a3 a4 a5 (ix2 e c) = ∑ l, (x2 D (Edges.node e) l : EReal) * D.Wk l c + D.bk c :=
    (Edges.gather_at _ _ Edges.v29_at e c).trans (v15_at A _ c)
  have h37 : val_main_v37 (F := Ideal) a0 a2 a3 a6 a7 (ix2 e c) = ∑ l, (x2 D (Edges.node e) l : EReal) * D.Wq l c + D.bq c :=
    (Edges.gather_at _ _ Edges.v36_at e c).trans (v19_at A _ c)
  have h51 : val_main_v51 (F := Ideal) a0 a2 a3 a8 a9 (ix2 e c) = ((mul D D.Wv (Edges.node e) c + D.bv c : ℝ) : EReal) :=
    (Edges.gather_at _ _ Edges.v50_at e c).trans (v23_at A _ c)
  pointwise [val_main_v52, val_main_v44, val_main_v43, val_main_v42, val_main_v41, val_main_v40, val_main_v39, val_main_v38,
    val_main_cst_3, val_main_cst_4]
  rw [h30, h37, h51]
  have hl : Ideal.div 1 (1 + Ideal.exp (-(arg D (Edges.node e) c))) = (gate D (Edges.node e) c : EReal) := logistic_real _
  refine (congrArg (· * _) hl).trans ?_
  rw [← EReal.coe_mul]
  rfl

/-- The messages gathered at a node: 1024 times the one it sends itself. -/
theorem v55_at (i : Fin 1024) (c : Fin 16) :
    val_main_v55 (F := Ideal) a0 a2 a3 a4 a5 a6 a7 a8 a9 (ix2 i c) = ((1024 * msg D i c : ℝ) : EReal) := by
  have hz : ∀ (i : Fin 1024) (c : Fin 16), val_main_v53 (F := Ideal) (ix2 i c) = 0 := fun i c => by
    pointwise [val_main_v53, val_main_cst_7]
  exact Edges.scatter_at _ hz _ Edges.v54_at _ (msg D) (v52_at A) i c

/-- The normalised convolution. -/
theorem v70_at (i : Fin 1024) (c : Fin 16) :
    val_main_v70 (F := Ideal) a0 a2 a3 a4 a5 a6 a7 a8 a9 a10 a11 a12 a13 (ix2 i c) = x3 D i c := by
  pointwise [val_main_v70, val_main_v69, val_main_v68, val_main_v67, val_main_v66, val_main_v65, val_main_v64, val_main_v63,
    val_main_v62, val_main_v61, val_main_v60, val_main_v59, val_main_v58, val_main_v57, val_main_v56, val_main_cst_8]
  rw [std_at, Ideal.div_coe std_ne]
  simp only [v55_at A, v11_at A, A.Ws, A.cb, A.ga, A.be, ← EReal.coe_mul, coe_sum, one_div]
  rw [← EReal.coe_add]
  exact x3_plain D i c

/-- Its pairwise maximum. -/
theorem v72_at (i : Fin 1024) (d : Fin 8) :
    val_main_v72 (F := Ideal) a0 a2 a3 a4 a5 a6 a7 a8 a9 a10 a11 a12 a13 (ix2 i d) = x4 D i d := by
  pointwise [val_main_v72, val_main_v71, val_main_cst_9]
  rw [fold_two]
  simp only [v70_at A]
  have h0 : ∀ h, (⟨d.val * 2 + (0 : Fin 2).val, h⟩ : Fin 16) = lo8 d := fun h => Fin.ext (by simp [lo8]; omega)
  have h1 : ∀ h, (⟨d.val * 2 + (1 : Fin 2).val, h⟩ : Fin 16) = hi8 d := fun h => Fin.ext (by simp [hi8]; omega)
  rw [h0, h1]
  rfl

/-- The weight of image `j` for image `i`. -/
theorem v80_at (i j : Fin 1024) :
    val_main_v80 (F := Ideal) a0 a2 a3 a4 a5 a6 a7 a8 a9 a10 a11 a12 a13 (ix2 i j) = (Model.sig D i j : EReal) := by
  pointwise [val_main_v80, val_main_v79, val_main_v78, val_main_v77, val_main_v76, val_main_v75, val_main_v74, val_main_v73,
    val_main_cst_10, val_main_cst_11]
  simp only [v72_at A]
  exact logistic_real _

/-- The result. -/
theorem v90_at (a14 : FVec Ideal S8x10 .f32) (a15 : FVec Ideal S10 .f32) (i : Fin 1024) (o : Fin 10) :
    val_main_v90 (F := Ideal) a0 a2 a3 a4 a5 a6 a7 a8 a9 a10 a11 a12 a13 a14 a15 (ix2 i o)
      = out D (fun d o => a14 (ix2 d o)) (fun o => a15 (ix1 o)) i o := by
  pointwise [val_main_v90, val_main_v89, val_main_v88, val_main_v87, val_main_v86, val_main_v85, val_main_v84, val_main_v83,
    val_main_v82, val_main_v81, val_main_cst_12]
  have ht : ∀ i, ∑ j, Model.sig D i j = tot D i := fun i => rfl
  simp only [v80_at A, v72_at A, coe_sum, ht, Ideal.div_coe (tot_pos D i).ne', ← EReal.coe_mul (Model.sig D i _), mul_one_div]
  rfl

end Cert.ReferenceIdeal.Stage

end
-- ==== Proof.Finite.lean ====
/- The precondition read: every entry of each argument array it names is a real number. -/
module

public import proofs.«01_k».proof.Defs
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.Pre_finite.Read

open Cert.Pre_finite

/-- The shape relations the precondition's operations take hold of the shapes it names. -/
instance facts : Facts where
  bcast_S_S1024x28x28 := by decide
  reducesTo_S1024x28x28_S_d0_1_2 := by decide
  h_S_ := by decide
  bcast_S_S784x32 := by decide
  reducesTo_S784x32_S_d0_1 := by decide
  bcast_S_S32 := by decide
  reducesTo_S32_S_d0 := by decide
  bcast_S_S16x16 := by decide
  reducesTo_S16x16_S_d0_1 := by decide
  bcast_S_S16 := by decide
  reducesTo_S16_S_d0 := by decide

open Facts

/-- Every entry of the array is a real number. -/
abbrev AllReal {s : Shape} (X : FVec Ideal s .f32) : Prop := ∀ i, ∃ r : ℝ, X i = (r : EReal)

/-- The pattern of infinity is the top element. -/
theorem ofBits_inf : Ideal.ofBits .f32 0x7F800000#32 = (⊤ : EReal) := by
  simp [Ideal.ofBits, Ideal.ieee]

/-- A number whose absolute value compares below infinity is a real number. -/
theorem real_of_lt {a : EReal} (h : max a (-a) < ⊤) : ∃ r : ℝ, a = (r : EReal) := by
  induction a using EReal.rec with
  | bot => simp at h
  | coe r => exact ⟨r, rfl⟩
  | top => simp at h

/-- An array whose `|a| < inf` test reduces by `and` to one has real entries only. -/
theorem allReal_of_reduce {s : Shape} {axes : List (Fin s.rank)} (X : FVec Ideal s .f32) (hb : S_.BroadcastsInDim s (![] : Fin 0 → Fin s.rank))
    (hr : s.ReducesTo axes S_) (hu : 0 < S_.numel) (j : S_.Idx)
    (e : Host.reduce IntOp.andi (cmpf .olt (Host.absf X) (broadcastInDim s ![] hb (constant S_ .f32 0x7F800000#32)))
      (constantI S_ 1 1#1) hr hu j = 1#1) : AllReal X := by
  intro i
  have hs : Subsingleton S_.Idx := ⟨fun a b => funext fun d => d.elim0⟩
  have h := Host.reduce_andi_all _ _ hr hu j e i
  have h' : Ideal.cmp .olt (max (X i) (-(X i))) (Ideal.ofBits .f32 0x7F800000#32) = 1#1 := h
  rw [ofBits_inf] at h'
  refine real_of_lt ?_
  by_contra hn
  simp [Ideal.cmp, hn] at h'

/-- An `and` of two one-bit scalars that is one has both of them one. -/
theorem andi_split {a b : IVec S_ 1} {j : S_.Idx} (h : andi a b j = 1#1) : a j = 1#1 ∧ b j = 1#1 :=
  IntOp.andi_eq_one.1 h

/-- The precondition's function all ones: the seven arrays it tests have real entries only. -/
theorem allReal_of_fn (x : FVec Ideal S1024x28x28 .f32) (t : IVec S_ 32) (W1 : FVec Ideal S784x32 .f32) (b1 : FVec Ideal S32 .f32)
    (Wk : FVec Ideal S16x16 .f32) (bk : FVec Ideal S16 .f32) (Wq : FVec Ideal S16x16 .f32) (bq : FVec Ideal S16 .f32)
    (Wv : FVec Ideal S16x16 .f32) (bv : FVec Ideal S16 .f32) (Ws : FVec Ideal S16x16 .f32) (cb ga be : FVec Ideal S16 .f32)
    (fW : FVec Ideal S8x10 .f32) (fb : FVec Ideal S10 .f32)
    (h : fn (F := Ideal) x t W1 b1 Wk bk Wq bq Wv bv Ws cb ga be fW fb = fun _ => 1#1) :
    AllReal x ∧ AllReal W1 ∧ AllReal b1 ∧ AllReal Wv ∧ AllReal bv ∧ AllReal Ws ∧ AllReal ga := by
  have j : S_.Idx := fun d => d.elim0
  have h0 := congrFun h j
  dsimp only [fn, fn_part1] at h0
  obtain ⟨h0, e6⟩ := andi_split h0
  obtain ⟨h0, e5⟩ := andi_split h0
  obtain ⟨h0, e4⟩ := andi_split h0
  obtain ⟨h0, e3⟩ := andi_split h0
  obtain ⟨h0, e2⟩ := andi_split h0
  obtain ⟨e0, e1⟩ := andi_split h0
  exact ⟨allReal_of_reduce _ _ _ _ j e0, allReal_of_reduce _ _ _ _ j e1, allReal_of_reduce _ _ _ _ j e2,
    allReal_of_reduce _ _ _ _ j e3, allReal_of_reduce _ _ _ _ j e4, allReal_of_reduce _ _ _ _ j e5,
    allReal_of_reduce _ _ _ _ j e6⟩

end Cert.Pre_finite.Read

end
-- ==== Proof.Equation.lean ====
/- The equation: over argument arrays the precondition admits, the kernel's result array and the reference's are one
   array. Both are the network of `Model.lean` over the numbers the arrays hold. -/
module

public import proofs.«01_k».proof.Proof.KernelValue
public import proofs.«01_k».proof.Proof.RefValue
public import proofs.«01_k».proof.Proof.Finite

@[expose] public section

set_option maxRecDepth 16384

noncomputable section

open Idealize.ShloMosaic Idealize.ShloMosaic.TcCoe Idealize.SL.Sem

namespace Cert.Equation

open Cert.KernelIdeal Cert.KernelIdeal.Gen Cert.Pre_finite.Read

/-- An array of real entries is the array of their real parts. -/
theorem coe_real {s : Shape} {X : FVec Ideal s .f32} (h : AllReal X) (i : s.Idx) : X i = ((X i).toReal : EReal) := by
  obtain ⟨r, hr⟩ := h i
  rw [hr, EReal.toReal_coe]

/-- A length-16 argument as one row, read at a column. -/
theorem row16_at (v : FVec Ideal S16 .f32) (c : Fin 16) : Arr.row16 v (ix2 0 c) = v (ix1 c) := by
  pointwise [Arr.row16]

/-- A length-32 argument as one row, read at a column. -/
theorem row32_at (v : FVec Ideal S32 .f32) (c : Fin 32) : Arr.row32 v (ix2 0 c) = v (ix1 c) := by
  pointwise [Arr.row32]

/-- A length-10 argument as one row, read at a column. -/
theorem row10_at (v : FVec Ideal S10 .f32) (c : Fin 10) : Arr.row10 v (ix2 0 c) = v (ix1 c) := by
  pointwise [Arr.row10]

/-- The images flattened: entry `l` of a row is the pixel in row `l / 28`, column `l % 28`. -/
theorem rows_at (x : FVec Ideal S1024x28x28 .f32) (i : Fin 1024) (l : Fin 784) (h1 : l.val / 28 < 28) (h2 : l.val % 28 < 28) :
    truncf .bf16 (shapeCast S1024x784 x Facts₀.shapeCasts_S1024x28x28_S1024x784) Facts₀.bitsLt_bf16_f32 (ix2 i l) = x (ix3 i ⟨l.val / 28, h1⟩ ⟨l.val % 28, h2⟩) := by
  pointwise []

/-- The numbers the argument arrays hold: the real part of each array the precondition tests, the others as they are. -/
def data (x : FVec Ideal S1024x28x28 .f32) (W1 : FVec Ideal S784x32 .f32) (b1 : FVec Ideal S32 .f32)
    (Wk : FVec Ideal S16x16 .f32) (bk : FVec Ideal S16 .f32) (Wq : FVec Ideal S16x16 .f32) (bq : FVec Ideal S16 .f32)
    (Wv : FVec Ideal S16x16 .f32) (bv : FVec Ideal S16 .f32) (Ws : FVec Ideal S16x16 .f32) (cb ga be : FVec Ideal S16 .f32) :
    Model.Data where
  X i l := (x (ix3 i ⟨l.val / 28, by omega⟩ ⟨l.val % 28, by omega⟩)).toReal
  W1 l k := (W1 (ix2 l k)).toReal
  b1 k := (b1 (ix1 k)).toReal
  Wk l c := Wk (ix2 l c)
  bk c := bk (ix1 c)
  Wq l c := Wq (ix2 l c)
  bq c := bq (ix1 c)
  Wv l c := (Wv (ix2 l c)).toReal
  bv c := (bv (ix1 c)).toReal
  Ws l c := (Ws (ix2 l c)).toReal
  cb c := cb (ix1 c)
  ga c := (ga (ix1 c)).toReal
  be c := be (ix1 c)

/-- Where the precondition holds, the kernel's array is the reference's. -/
theorem body_eq (x : FVec Ideal S1024x28x28 .f32) (t : IVec S_ 32) (W1 : FVec Ideal S784x32 .f32) (b1 : FVec Ideal S32 .f32)
    (Wk : FVec Ideal S16x16 .f32) (bk : FVec Ideal S16 .f32) (Wq : FVec Ideal S16x16 .f32) (bq : FVec Ideal S16 .f32)
    (Wv : FVec Ideal S16x16 .f32) (bv : FVec Ideal S16 .f32) (Ws : FVec Ideal S16x16 .f32) (cb ga be : FVec Ideal S16 .f32)
    (fW : FVec Ideal S8x10 .f32) (fb : FVec Ideal S10 .f32)
    (h : Cert.Pre_finite.fn (F := Ideal) x t W1 b1 Wk bk Wq bq Wv bv Ws cb ga be fW fb = fun _ => 1#1) :
    Arr.body (truncf .bf16 (shapeCast S1024x784 x Facts₀.shapeCasts_S1024x28x28_S1024x784) Facts₀.bitsLt_bf16_f32) W1 (Arr.row32 b1)
        Wk (Arr.row16 bk) Wq (Arr.row16 bq) Wv (Arr.row16 bv) Ws (Arr.row16 cb) (Arr.row16 ga) (Arr.row16 be) fW (Arr.row10 fb)
      = Cert.ReferenceIdeal.Read.val_main_v90 (F := Ideal) x W1 b1 Wk bk Wq bq Wv bv Ws cb ga be fW fb := by
  obtain ⟨hx, hW, hb, hv, hbv, hs, hga⟩ := allReal_of_fn x t W1 b1 Wk bk Wq bq Wv bv Ws cb ga be fW fb h
  have A : Cert.ReferenceIdeal.Stage.Agrees (data x W1 b1 Wk bk Wq bq Wv bv Ws cb ga be) x W1 b1 Wk bk Wq bq Wv bv Ws cb ga be :=
    { x := fun i l _ _ => coe_real hx _, W1 := fun _ _ => coe_real hW _, b1 := fun _ => coe_real hb _,
      Wk := fun _ _ => rfl, bk := fun _ => rfl, Wq := fun _ _ => rfl, bq := fun _ => rfl,
      Wv := fun _ _ => coe_real hv _, bv := fun _ => coe_real hbv _, Ws := fun _ _ => coe_real hs _,
      cb := fun _ => rfl, ga := fun _ => coe_real hga _, be := fun _ => rfl }
  funext j
  rw [eq_ix2 j]
  refine (Pay.body_at (data x W1 b1 Wk bk Wq bq Wv bv Ws cb ga be) _ W1 _ Wk _ Wq _ Wv _ Ws _ _ _ fW _
    (fun i l => (rows_at x i l (by omega) (by omega)).trans (coe_real hx _)) (fun _ _ => coe_real hW _)
    (fun k => (row32_at b1 k).trans (coe_real hb _)) (fun _ _ => rfl) (row16_at bk)
    (fun _ _ => rfl) (row16_at bq) (fun _ _ => coe_real hv _) (fun c => (row16_at bv c).trans (coe_real hbv _))
    (fun _ _ => coe_real hs _) (row16_at cb) (fun c => (row16_at ga c).trans (coe_real hga _))
    (row16_at be) (j 0) (j 1)).trans ?_
  refine Eq.trans ?_ (Cert.ReferenceIdeal.Stage.v90_at A fW fb (j 0) (j 1)).symm
  exact congrArg (fun g => Model.out _ _ g (j 0) (j 1)) (funext (row10_at fb))

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel runs from every memory, its arguments end unchanged and its semaphores at zero. -/
theorem frame_p : Cert.quiescent_Kernel := fun m ρ _ => Cert.Kernel.Gen.frame m ρ

/-- So does the kernel with its constant named. -/
theorem frame_pi : Cert.quiescent_KernelIdeal := fun m ρ _ => Cert.KernelIdeal.Gen.frame m ρ

/-- And where the precondition holds. -/
theorem frame_pi_pre : Cert.quiescent_KernelIdeal_pre_finite := fun m ρ _ => Cert.KernelIdeal.Gen.frame m ρ

/-- The reference runs from every memory, its arguments end unchanged; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And where the precondition holds. -/
theorem frame_ri_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's constant is the reciprocal of the square root its name says. -/
theorem preserves : Cert.preserves_Kernel_KernelIdeal :=
  IdealRules.named_const.statement Cert.KernelIdeal.κ "inv_std" .f32 0x3F7FFFAC#32 _ rfl

/-- From memories that agree on arguments the precondition admits, the kernel and the reference end with the same array. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, -, e2, e3, e4, e5, e6, e7, e8, e9, e10, e11, e12, e13, e14, e15⟩ := hagree c
  refine (Cert.ReferenceIdeal.Read.val_main_v90_eq m' c).trans ?_
  rw [e0, e2, e3, e4, e5, e6, e7, e8, e9, e10, e11, e12, e13, e14, e15]
  exact ((Cert.KernelIdeal.Arr.final m c).trans (Cert.Equation.body_eq _ _ _ _ _ _ _ _ _ _ _ _ _ _ _ _ (hpre c))).symm

theorem claim : Cert.Claim :=
  ⟨Cert.Kernel.Gen.facts, Cert.KernelIdeal.Gen.facts, Cert.ReferenceIdeal.Gen.facts, Cert.Pre_finite.Read.facts,
    frame_p, frame_pi, frame_pi_pre, frame_ri, frame_ri_pre, preserves, algebraic⟩

end Cert.Proof

end
